-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_4)) (v3 : (c : Dev Cert.KernelIdeal.nD) → Buf (Elt Ideal) ((c.tc : Thread Cert.KernelIdeal.nD Cert.KernelIdeal.τ).loc Cert.KernelIdeal.main_v14_5)) (v4 : (c : Dev Cert.KernelIdeal.nD) → Buf (Elt Ideal) ((c.tc : Thread Cert.KernelIdeal.nD Cert.KernelIdeal.τ).loc Cert.KernelIdeal.main_v14_2)) (v5 : (c : Dev Cert.KernelIdeal.nD) → Buf (Elt Ideal) ((c.tc : Thread Cert.KernelIdeal.nD Cert.KernelIdeal.τ).loc Cert.KernelIdeal.main_v14_3)) (v6 : (c : Dev Cert.KernelIdeal.nD) → Buf (Elt Ideal) ((c.tc : Thread Cert.KernelIdeal.nD Cert.KernelIdeal.τ).loc Cert.KernelIdeal.main_v15)) (v7 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_4) = v2 c
          ∧ r.2.mem ((c.tc : Thread Cert.KernelIdeal.nD Cert.KernelIdeal.τ).loc Cert.KernelIdeal.main_v14_5) = v3 c
          ∧ r.2.mem ((c.tc : Thread Cert.KernelIdeal.nD Cert.KernelIdeal.τ).loc Cert.KernelIdeal.main_v14_2) = v4 c
          ∧ r.2.mem ((c.tc : Thread Cert.KernelIdeal.nD Cert.KernelIdeal.τ).loc Cert.KernelIdeal.main_v14_3) = v5 c
          ∧ r.2.mem ((c.tc : Thread Cert.KernelIdeal.nD Cert.KernelIdeal.τ).loc Cert.KernelIdeal.main_v15) = v6 c
          ∧ r.2.mem ((c.tc : Thread Cert.KernelIdeal.nD Cert.KernelIdeal.τ).loc Cert.KernelIdeal.main_v16) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_v171) = v2 c
          ∧ r.2.mem ((c.tc : Thread Cert.ReferenceIdeal.nD Cert.ReferenceIdeal.τ).loc Cert.ReferenceIdeal.main_v177) = v3 c
          ∧ r.2.mem ((c.tc : Thread Cert.ReferenceIdeal.nD Cert.ReferenceIdeal.τ).loc Cert.ReferenceIdeal.main_v159) = v4 c
          ∧ r.2.mem ((c.tc : Thread Cert.ReferenceIdeal.nD Cert.ReferenceIdeal.τ).loc Cert.ReferenceIdeal.main_v165) = v5 c
          ∧ r.2.mem ((c.tc : Thread Cert.ReferenceIdeal.nD Cert.ReferenceIdeal.τ).loc Cert.ReferenceIdeal.main_v146) = v6 c
          ∧ r.2.mem ((c.tc : Thread Cert.ReferenceIdeal.nD Cert.ReferenceIdeal.τ).loc Cert.ReferenceIdeal.main_v145) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S2x64x64 : Shape := ⟨3, ![2, 64, 64]⟩
abbrev S2x128x16 : Shape := ⟨3, ![2, 128, 16]⟩
abbrev S64x16 : Shape := ⟨2, ![64, 16]⟩
abbrev S16 : Shape := ⟨1, ![16]⟩
abbrev S10000 : Shape := ⟨1, ![10000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x128x16 : S_.BroadcastsInDim S2x128x16 (![] : Fin 0 → Fin S2x128x16.rank)
  reducesTo_S2x128x16_S_d0_1_2 : S2x128x16.ReducesTo [0, 1, 2] S_
  bcast_S_S64x16 : S_.BroadcastsInDim S64x16 (![] : Fin 0 → Fin S64x16.rank)
  reducesTo_S64x16_S_d0_1 : S64x16.ReducesTo [0, 1] S_

variable [Facts]

def fn_part2 {F : FTy → Type} [FloatOps F] (main_arg7 : FVec F S2x64x64 .f32) (main_arg8 : FVec F S2x128x16 .f32) (main_arg10 : FVec F S64x16 .f32) (main_v33 : IVec S_ 1) : IVec S_ 1 :=
  let main_v34 : FVec F S2x64x64 .f32 := Host.absf main_arg7
  let main_cst_12 : FVec F S_ .f32 := constant S_ .f32 0x7F800000#32
  let main_v35 : FVec F S2x64x64 .f32 := broadcastInDim S2x64x64 ![] bcast_S_S2x64x64 main_cst_12
  let main_v36 : IVec S2x64x64 1 := cmpf .olt main_v34 main_v35
  let main_c_13 : IVec S_ 1 := constantI S_ 1 1#1
  let main_v37 : IVec S_ 1 := (fun x v => Host.reduce IntOp.andi x v reducesTo_S2x64x64_S_d0_1_2 h_S_) main_v36 main_c_13
  let main_v38 : IVec S_ 1 := andi main_v33 main_v37
  let main_v39 : FVec F S2x128x16 .f32 := Host.absf main_arg8
  let main_cst_14 : FVec F S_ .f32 := constant S_ .f32 0x7F800000#32
  let main_v40 : FVec F S2x128x16 .f32 := broadcastInDim S2x128x16 ![] bcast_S_S2x128x16 main_cst_14
  let main_v41 : IVec S2x128x16 1 := cmpf .olt main_v39 main_v40
  let main_c_15 : IVec S_ 1 := constantI S_ 1 1#1
  let main_v42 : IVec S_ 1 := (fun x v => Host.reduce IntOp.andi x v reducesTo_S2x128x16_S_d0_1_2 h_S_) main_v41 main_c_15
  let main_v43 : IVec S_ 1 := andi main_v38 main_v42
  let main_v44 : FVec F S64x16 .f32 := Host.absf main_arg10
  let main_cst_16 : FVec F S_ .f32 := constant S_ .f32 0x7F800000#32
  let main_v45 : FVec F S64x16 .f32 := broadcastInDim S64x16 ![] bcast_S_S64x16 main_cst_16
  let main_v46 : IVec S64x16 1 := cmpf .olt main_v44 main_v45
  let main_c_17 : IVec S_ 1 := constantI S_ 1 1#1
  let main_v47 : IVec S_ 1 := (fun x v => Host.reduce IntOp.andi x v reducesTo_S64x16_S_d0_1 h_S_) main_v46 main_c_17
  let main_v48 : IVec S_ 1 := andi main_v43 main_v47
  main_v48

def fn_part1 {F : FTy → Type} [FloatOps F] (main_arg4 : FVec F S64 .f32) (main_arg5 : FVec F S64 .f32) (main_arg6 : FVec F S2x64x64 .f32) (main_arg7 : FVec F S2x64x64 .f32) (main_arg8 : FVec F S2x128x16 .f32) (main_arg10 : FVec F S64x16 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x64x64 .f32 := Host.absf main_arg6
  let main_cst_10 : FVec F S_ .f32 := constant S_ .f32 0x7F800000#32
  let main_v30 : FVec F S2x64x64 .f32 := broadcastInDim S2x64x64 ![] bcast_S_S2x64x64 main_cst_10
  let main_v31 : IVec S2x64x64 1 := cmpf .olt main_v29 main_v30
  let main_c_11 : IVec S_ 1 := constantI S_ 1 1#1
  let main_v32 : IVec S_ 1 := (fun x v => Host.reduce IntOp.andi x v reducesTo_S2x64x64_S_d0_1_2 h_S_) main_v31 main_c_11
  let main_v33 : IVec S_ 1 := andi main_v28 main_v32
  fn_part2 (F := F) main_arg7 main_arg8 main_arg10 main_v33

def fn {F : FTy → Type} [FloatOps F] (main_arg0 : FVec F S10000x128 .f32) (main_arg1 : FVec F S10000x10000 .f32) (main_arg2 : FVec F S128x64 .f32) (main_arg3 : FVec F S128x64 .f32) (main_arg4 : FVec F S64 .f32) (main_arg5 : FVec F S64 .f32) (main_arg6 : FVec F S2x64x64 .f32) (main_arg7 : FVec F S2x64x64 .f32) (main_arg8 : FVec F S2x128x16 .f32) (main_arg9 : FVec F S64x16 .f32) (main_arg10 : FVec F S64x16 .f32) (main_arg11 : FVec F S16 .f32) (main_arg12 : FVec F S16 .f32) (main_arg13 : IVec S10000 32) (main_arg14 : IVec S10000 1) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg10 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S2x64x64 : Shape := ⟨3, ![2, 64, 64]⟩
abbrev S2x128x16 : Shape := ⟨3, ![2, 128, 16]⟩
abbrev S64x16 : Shape := ⟨2, ![64, 16]⟩
abbrev S16 : Shape := ⟨1, ![16]⟩
abbrev S10000 : Shape := ⟨1, ![10000]⟩
abbrev S128x128 : Shape := ⟨2, ![128, 128]⟩
abbrev S128 : Shape := ⟨1, ![128]⟩
abbrev S1x128 : Shape := ⟨2, ![1, 128]⟩
abbrev S2x64x128 : Shape := ⟨3, ![2, 64, 128]⟩
abbrev S2x128x128 : Shape := ⟨3, ![2, 128, 128]⟩
abbrev S64x32 : Shape := ⟨2, ![64, 32]⟩
abbrev S128x32 : Shape := ⟨2, ![128, 32]⟩
abbrev S32 : Shape := ⟨1, ![32]⟩
abbrev S1x32 : Shape := ⟨2, ![1, 32]⟩
abbrev S10000x1 : Shape := ⟨2, ![10000, 1]⟩
abbrev S10000x64 : Shape := ⟨2, ![10000, 64]⟩
abbrev S10000x16 : Shape := ⟨2, ![10000, 16]⟩
abbrev S1x1 : Shape := ⟨2, ![1, 1]⟩
abbrev S200x10000 : Shape := ⟨2, ![200, 10000]⟩
abbrev S1x128x128 : Shape := ⟨3, ![1, 128, 128]⟩
abbrev S1x128x16 : Shape := ⟨3, ![1, 128, 16]⟩
abbrev S400x64 : Shape := ⟨2, ![400, 64]⟩
abbrev S400x16 : Shape := ⟨2, ![400, 16]⟩
abbrev S16x64 : Shape := ⟨2, ![16, 64]⟩
abbrev S200x128 : Shape := ⟨2, ![200, 128]⟩
abbrev S400x128 : Shape := ⟨2, ![400, 128]⟩
abbrev S128x16 : Shape := ⟨2, ![128, 16]⟩
abbrev S400 : Shape := ⟨1, ![400]⟩
abbrev S400x1 : Shape := ⟨2, ![400, 1]⟩
abbrev S1x400x1 : Shape := ⟨3, ![1, 400, 1]⟩
abbrev S1 : Shape := ⟨1, ![1]⟩
abbrev S1x1x1 : Shape := ⟨3, ![1, 1, 1]⟩
abbrev S400x32 : Shape := ⟨2, ![400, 32]⟩
abbrev S1x64 : Shape := ⟨2, ![1, 64]⟩
abbrev S_ : Shape := ⟨0, ![]⟩

abbrev nBuf : Space → Nat
  | .hbm => 41
  | .vmem => 36
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64, .f32⟩
  | .hbm, ⟨6, _⟩ => ⟨S2x64x64, .f32⟩
  | .hbm, ⟨7, _⟩ => ⟨S2x64x64, .f32⟩
  | .hbm, ⟨8, _⟩ => ⟨S2x128x16, .f32⟩
  | .hbm, ⟨9, _⟩ => ⟨S64x16, .f32⟩
  | .hbm, ⟨10, _⟩ => ⟨S64x16, .f32⟩
  | .hbm, ⟨11, _⟩ => ⟨S16, .f32⟩
  | .hbm, ⟨12, _⟩ => ⟨S16, .f32⟩
  | .hbm, ⟨13, _⟩ => ⟨S10000, .i32⟩
  | .hbm, ⟨14, _⟩ => ⟨S10000, .i1⟩
  | .hbm, ⟨15, _⟩ => ⟨S128x128, .f32⟩
  | .hbm, ⟨16, _⟩ => ⟨S128, .f32⟩
  | .hbm, ⟨17, _⟩ => ⟨S1x128, .f32⟩
  | .hbm, ⟨18, _⟩ => ⟨S2x64x128, .f32⟩
  | .hbm, ⟨19, _⟩ => ⟨S2x64x64, .f32⟩
  | .hbm, ⟨20, _⟩ => ⟨S2x64x128, .f32⟩
  | .hbm, ⟨21, _⟩ => ⟨S2x128x128, .f32⟩
  | .hbm, ⟨22, _⟩ => ⟨S64x16, .f32⟩
  | .hbm, ⟨23, _⟩ => ⟨S64x32, .f32⟩
  | .hbm, ⟨24, _⟩ => ⟨S64x32, .f32⟩
  | .hbm, ⟨25, _⟩ => ⟨S128x32, .f32⟩
  | .hbm, ⟨26, _⟩ => ⟨S32, .f32⟩
  | .hbm, ⟨27, _⟩ => ⟨S1x32, .f32⟩
  | .hbm, ⟨28, _⟩ => ⟨S10000x1, .i32⟩
  | .hbm, ⟨29, _⟩ => ⟨S10000, .f32⟩
  | .hbm, ⟨30, _⟩ => ⟨S10000x1, .f32⟩
  | .hbm, ⟨31, _⟩ => ⟨S10000x64, .f32⟩
  | .hbm, ⟨32, _⟩ => ⟨S10000x64, .f32⟩
  | .hbm, ⟨33, _⟩ => ⟨S10000x64, .f32⟩
  | .hbm, ⟨34, _⟩ => ⟨S10000x64, .f32⟩
  | .hbm, ⟨35, _⟩ => ⟨S10000x16, .f32⟩
  | .hbm, ⟨36, _⟩ => ⟨S10000x16, .f32⟩
  | .hbm, ⟨37, _⟩ => ⟨S1x1, .f32⟩
  | .hbm, ⟨38, _⟩ => ⟨S1x1, .f32⟩
  | .hbm, ⟨39, _⟩ => ⟨S_, .f32⟩
  | .hbm, ⟨40, _⟩ => ⟨S_, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S1x128, .f32⟩
  | .local _ .vmem, ⟨7, _⟩ => ⟨S1x128x128, .f32⟩
  | .local _ .vmem, ⟨8, _⟩ => ⟨S1x128x128, .f32⟩
  | .local _ .vmem, ⟨9, _⟩ => ⟨S1x128x16, .f32⟩
  | .local _ .vmem, ⟨10, _⟩ => ⟨S1x128x16, .f32⟩
  | .local _ .vmem, ⟨11, _⟩ => ⟨S128x32, .f32⟩
  | .local _ .vmem, ⟨12, _⟩ => ⟨S1x32, .f32⟩
  | .local _ .vmem, ⟨13, _⟩ => ⟨S10000x1, .i32⟩
  | .local _ .vmem, ⟨14, _⟩ => ⟨S10000x1, .f32⟩
  | .local _ .vmem, ⟨15, _⟩ => ⟨S400x64, .f32⟩
  | .local _ .vmem, ⟨16, _⟩ => ⟨S400x64, .f32⟩
  | .local _ .vmem, ⟨17, _⟩ => ⟨S400x64, .f32⟩
  | .local _ .vmem, ⟨18, _⟩ => ⟨S400x64, .f32⟩
  | .local _ .vmem, ⟨19, _⟩ => ⟨S400x64, .f32⟩
  | .local _ .vmem, ⟨20, _⟩ => ⟨S400x64, .f32⟩
  | .local _ .vmem, ⟨21, _⟩ => ⟨S400x64, .f32⟩
  | .local _ .vmem, ⟨22, _⟩ => ⟨S400x64, .f32⟩
  | .local _ .vmem, ⟨23, _⟩ => ⟨S400x16, .f32⟩
  | .local _ .vmem, ⟨24, _⟩ => ⟨S400x16, .f32⟩
  | .local _ .vmem, ⟨25, _⟩ => ⟨S400x16, .f32⟩
  | .local _ .vmem, ⟨26, _⟩ => ⟨S400x16, .f32⟩
  | .local _ .vmem, ⟨27, _⟩ => ⟨S1x1, .f32⟩
  | .local _ .vmem, ⟨28, _⟩ => ⟨S1x1, .f32⟩
  | .local _ .vmem, ⟨29, _⟩ => ⟨S10000x128, .f32⟩
  | .local _ .vmem, ⟨30, _⟩ => ⟨S10000x128, .f32⟩
  | .local _ .vmem, ⟨31, _⟩ => ⟨S16x64, .f32⟩
  | .local _ .vmem, ⟨32, _⟩ => ⟨S16x64, .f32⟩
  | .local _ .vmem, ⟨33, _⟩ => ⟨S1x1, .f32⟩
  | .local _ .vmem, ⟨34, _⟩ => ⟨S1x1, .f32⟩
  | .local _ .vmem, ⟨35, _⟩ => ⟨S1x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call0_v0 : Ref sig .tc := ⟨.hbm, 23, rfl⟩
abbrev main_call0_v1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v14_2 : Ref sig .tc := ⟨.hbm, 33, rfl⟩
abbrev main_v14_3 : Ref sig .tc := ⟨.hbm, 34, rfl⟩
abbrev main_v14_4 : Ref sig .tc := ⟨.hbm, 35, rfl⟩
abbrev main_v14_5 : Ref sig .tc := ⟨.hbm, 36, rfl⟩
abbrev main_v14_6 : Ref sig .tc := ⟨.hbm, 37, rfl⟩
abbrev main_v14_7 : Ref sig .tc := ⟨.hbm, 38, rfl⟩
abbrev main_v15 : Ref sig .tc := ⟨.hbm, 39, rfl⟩
abbrev main_v16 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg18_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem18_0 : DmaSem sig := 28

abbrev nD : Nat := 1
abbrev τ : Topo := Topo.v7x

variable {F : FTy → Type} [FloatOps F]

abbrev grid0 : Pipeline.Grid := ⟨1, ![50], ![false]⟩

def k0_off1 (i : grid0.Coords) : Fin 2 → Nat :=
  let arg0 : BitVec 32 := BitVec.ofNat 32 (i 0).val
  let c25_i32_4 : BitVec 32 := 25#32
  let c0_i32_5 : BitVec 32 := 0#32
  let v17 : BitVec 1 := Scalar.cmpi .eq c25_i32_4 c0_i32_5
  let c1_i32_6 : BitVec 32 := 1#32
  let v18 : BitVec 32 := Scalar.select v17 c1_i32_6 c25_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c400_i32 : BitVec 32 := 400#32
  let v66 : BitVec 32 := Scalar.muli v26 c400_i32
  let v67 : Index := Scalar.indexCast v66
  let c0_36 : Index := 0#32
  ![v67.toNat, 0]
def k0_off2 (i : grid0.Coords) : Fin 2 → Nat :=
  let arg0 : BitVec 32 := BitVec.ofNat 32 (i 0).val
  let c25_i32_4 : BitVec 32 := 25#32
  let c0_i32_5 : BitVec 32 := 0#32
  let v17 : BitVec 1 := Scalar.cmpi .eq c25_i32_4 c0_i32_5
  let c1_i32_6 : BitVec 32 := 1#32
  let v18 : BitVec 32 := Scalar.select v17 c1_i32_6 c25_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c400_i32_62 : BitVec 32 := 400#32
  let v126 : BitVec 32 := Scalar.muli v26 c400_i32_62
  let v127 : Index := Scalar.indexCast v126
  let c0_63 : Index := 0#32
  ![v127.toNat, 0]
def k0_cond5 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c25_i32 : BitVec 32 := 25#32
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let v0 : BitVec 32 := Scalar.divsi arg0 c25_i32
  let c1_i32 : BitVec 32 := 1#32
  let v15 : BitVec 32 := Scalar.subi v0 c1_i32
  let v16 : BitVec 32 := Scalar.select v14 v15 v0
  let c1_i32_64 : BitVec 32 := 1#32
  let v131 : BitVec 1 := Scalar.cmpi .eq v16 c1_i32_64
  let v132 : BitVec 32 := Scalar.extui v131
  let c0_i32_65 : BitVec 32 := 0#32
  let v133 : BitVec 1 := Scalar.cmpi .ne v132 c0_i32_65
  v133

def k0_cond6 (i : grid0.Coords) : BitVec 1 :=
  let arg0 : BitVec 32 := BitVec.ofNat 32 (i 0).val
  let c25_i32_4 : BitVec 32 := 25#32
  let c0_i32_5 : BitVec 32 := 0#32
  let v17 : BitVec 1 := Scalar.cmpi .eq c25_i32_4 c0_i32_5
  let c1_i32_6 : BitVec 32 := 1#32
  let v18 : BitVec 32 := Scalar.select v17 c1_i32_6 c25_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c24_i32 : BitVec 32 := 24#32
  let v134 : BitVec 1 := Scalar.cmpi .eq v26 c24_i32
  let v135 : BitVec 32 := Scalar.extui v134
  let c0_i32_66 : BitVec 32 := 0#32
  let v136 : BitVec 1 := Scalar.cmpi .ne v135 c0_i32_66
  v136

def k0_cond8 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c25_i32 : BitVec 32 := 25#32
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let v0 : BitVec 32 := Scalar.divsi arg0 c25_i32
  let c1_i32 : BitVec 32 := 1#32
  let v15 : BitVec 32 := Scalar.subi v0 c1_i32
  let v16 : BitVec 32 := Scalar.select v14 v15 v0
  let c1_i32_83 : BitVec 32 := 1#32
  let v164 : BitVec 1 := Scalar.cmpi .eq v16 c1_i32_83
  let v165 : BitVec 32 := Scalar.extui v164
  let c0_i32_84 : BitVec 32 := 0#32
  let v166 : BitVec 1 := Scalar.cmpi .ne v165 c0_i32_84
  v166

def cc0_transform_0 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli c2_i32 v9
  let c0_i32_3 : BitVec 32 := 0#32
  let v11 : BitVec 32 := Scalar.addi v10 c0_i32_3
  let c0_i32_4 : BitVec 32 := 0#32
  let c0_i32_5 : BitVec 32 := 0#32
  ![v11.toNat, c0_i32_4.toNat]

def cc0_transform_1 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli c2_i32 v9
  let c1_i32_3 : BitVec 32 := 1#32
  let v11 : BitVec 32 := Scalar.addi v10 c1_i32_3
  let c0_i32_4 : BitVec 32 := 0#32
  let c0_i32_5 : BitVec 32 := 0#32
  ![v11.toNat, c0_i32_4.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c25_i32 : BitVec 32 := 25#32
  let v0 : BitVec 32 := Scalar.divsi arg0 c25_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c25_i32 : BitVec 32 := 25#32
  let v0 : BitVec 32 := Scalar.divsi arg0 c25_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c25_i32 : BitVec 32 := 25#32
  let v0 : BitVec 32 := Scalar.divsi arg0 c25_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c25_i32_5 : BitVec 32 := 25#32
  let c0_i32_6 : BitVec 32 := 0#32
  let v18 : BitVec 1 := Scalar.cmpi .eq c25_i32_5 c0_i32_6
  let c1_i32_7 : BitVec 32 := 1#32
  let v19 : BitVec 32 := Scalar.select v18 c1_i32_7 c25_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 v27 c0_i32_11
  let c0_i32_12 : BitVec 32 := 0#32
  let c0_i32_13 : BitVec 32 := 0#32
  ![v28.toNat, c0_i32_12.toNat]

def cc0_transform_12 (i : grid0.Coords) : Fin 2 → Nat :=
  let arg0 : BitVec 32 := BitVec.ofNat 32 (i 0).val
  let c25_i32 : BitVec 32 := 25#32
  let v0 : BitVec 32 := Scalar.divsi arg0 c25_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c25_i32_5 : BitVec 32 := 25#32
  let c0_i32_6 : BitVec 32 := 0#32
  let v18 : BitVec 1 := Scalar.cmpi .eq c25_i32_5 c0_i32_6
  let c1_i32_7 : BitVec 32 := 1#32
  let v19 : BitVec 32 := Scalar.select v18 c1_i32_7 c25_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 v27 c0_i32_11
  let c0_i32_12 : BitVec 32 := 0#32
  let c0_i32_13 : BitVec 32 := 0#32
  ![v28.toNat, c0_i32_12.toNat]

def cc0_transform_13 (i : grid0.Coords) : Fin 2 → Nat :=
  let arg0 : BitVec 32 := BitVec.ofNat 32 (i 0).val
  let c25_i32 : BitVec 32 := 25#32
  let v0 : BitVec 32 := Scalar.divsi arg0 c25_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c25_i32_5 : BitVec 32 := 25#32
  let c0_i32_6 : BitVec 32 := 0#32
  let v18 : BitVec 1 := Scalar.cmpi .eq c25_i32_5 c0_i32_6
  let c1_i32_7 : BitVec 32 := 1#32
  let v19 : BitVec 32 := Scalar.select v18 c1_i32_7 c25_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 v27 c0_i32_11
  let c0_i32_12 : BitVec 32 := 0#32
  let c0_i32_13 : BitVec 32 := 0#32
  ![v28.toNat, c0_i32_12.toNat]

def cc0_transform_14 (i : grid0.Coords) : Fin 2 → Nat :=
  let arg0 : BitVec 32 := BitVec.ofNat 32 (i 0).val
  let c25_i32 : BitVec 32 := 25#32
  let v0 : BitVec 32 := Scalar.divsi arg0 c25_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c25_i32_5 : BitVec 32 := 25#32
  let c0_i32_6 : BitVec 32 := 0#32
  let v18 : BitVec 1 := Scalar.cmpi .eq c25_i32_5 c0_i32_6
  let c1_i32_7 : BitVec 32 := 1#32
  let v19 : BitVec 32 := Scalar.select v18 c1_i32_7 c25_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 v27 c0_i32_11
  let c0_i32_12 : BitVec 32 := 0#32
  let c0_i32_13 : BitVec 32 := 0#32
  ![v28.toNat, c0_i32_12.toNat]

def cc0_transform_15 (i : grid0.Coords) : Fin 2 → Nat :=
  let arg0 : BitVec 32 := BitVec.ofNat 32 (i 0).val
  let c25_i32 : BitVec 32 := 25#32
  let v0 : BitVec 32 := Scalar.divsi arg0 c25_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c25_i32_5 : BitVec 32 := 25#32
  let c0_i32_6 : BitVec 32 := 0#32
  let v18 : BitVec 1 := Scalar.cmpi .eq c25_i32_5 c0_i32_6
  let c1_i32_7 : BitVec 32 := 1#32
  let v19 : BitVec 32 := Scalar.select v18 c1_i32_7 c25_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 v27 c0_i32_11
  let c0_i32_12 : BitVec 32 := 0#32
  let c0_i32_13 : BitVec 32 := 0#32
  ![v28.toNat, c0_i32_12.toNat]

def cc0_transform_16 (i : grid0.Coords) : Fin 2 → Nat :=
  let arg0 : BitVec 32 := BitVec.ofNat 32 (i 0).val
  let c25_i32 : BitVec 32 := 25#32
  let v0 : BitVec 32 := Scalar.divsi arg0 c25_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c25_i32_5 : BitVec 32 := 25#32
  let c0_i32_6 : BitVec 32 := 0#32
  let v18 : BitVec 1 := Scalar.cmpi .eq c25_i32_5 c0_i32_6
  let c1_i32_7 : BitVec 32 := 1#32
  let v19 : BitVec 32 := Scalar.select v18 c1_i32_7 c25_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 v27 c0_i32_11
  let c0_i32_12 : BitVec 32 := 0#32
  let c0_i32_13 : BitVec 32 := 0#32
  ![v28.toNat, c0_i32_12.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10000x1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S10000x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S400x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S400x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S400x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S400x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S400x16 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S400x16 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S2x64x64 : Shape := ⟨3, ![2, 64, 64]⟩
abbrev S2x128x16 : Shape := ⟨3, ![2, 128, 16]⟩
abbrev S64x16 : Shape := ⟨2, ![64, 16]⟩
abbrev S16 : Shape := ⟨1, ![16]⟩
abbrev S10000 : Shape := ⟨1, ![10000]⟩
abbrev S10000x64 : Shape := ⟨2, ![10000, 64]⟩
abbrev S1x64 : Shape := ⟨2, ![1, 64]⟩
abbrev S_ : Shape := ⟨0, ![]⟩
abbrev S10000x1 : Shape := ⟨2, ![10000, 1]⟩
abbrev S1x16 : Shape := ⟨2, ![1, 16]⟩
abbrev S10000x16 : Shape := ⟨2, ![10000, 16]⟩
abbrev S16x16 : Shape := ⟨2, ![16, 16]⟩
abbrev S1x64x64 : Shape := ⟨3, ![1, 64, 64]⟩
abbrev S64x64 : Shape := ⟨2, ![64, 64]⟩
abbrev S1x128x16 : Shape := ⟨3, ![1, 128, 16]⟩
abbrev S128x16 : Shape := ⟨2, ![128, 16]⟩
abbrev S16x10000 : Shape := ⟨2, ![16, 10000]⟩
abbrev S16x64 : Shape := ⟨2, ![16, 64]⟩
abbrev S16x1 : Shape := ⟨2, ![16, 1]⟩
abbrev S16x1x64 : Shape := ⟨3, ![16, 1, 64]⟩
abbrev S1x16x64 : Shape := ⟨3, ![1, 16, 64]⟩
abbrev S16x16x64 : Shape := ⟨3, ![16, 16, 64]⟩
abbrev S16x16x1 : Shape := ⟨3, ![16, 16, 1]⟩

abbrev nBuf : Space → Nat
  | .hbm => 284
  | .vmem => 0
  | .smem => 0
  | _ => 0

abbrev hbmTy0_0 (i : Nat) : BufTy := match i % 128 with
  | 0 => ⟨S10000x128, .f32⟩
  | 1 => ⟨S10000x10000, .f32⟩
  | 2 => ⟨S128x64, .f32⟩
  | 3 => ⟨S128x64, .f32⟩
  | 4 => ⟨S64, .f32⟩
  | 5 => ⟨S64, .f32⟩
  | 6 => ⟨S2x64x64, .f32⟩
  | 7 => ⟨S2x64x64, .f32⟩
  | 8 => ⟨S2x128x16, .f32⟩
  | 9 => ⟨S64x16, .f32⟩
  | 10 => ⟨S64x16, .f32⟩
  | 11 => ⟨S16, .f32⟩
  | 12 => ⟨S16, .f32⟩
  | 13 => ⟨S10000, .i32⟩
  | 14 => ⟨S10000, .i1⟩
  | 15 => ⟨S10000x64, .f32⟩
  | 16 => ⟨S1x64, .f32⟩
  | 17 => ⟨S10000x64, .f32⟩
  | 18 => ⟨S10000x64, .f32⟩
  | 19 => ⟨S_, .f32⟩
  | 20 => ⟨S10000x64, .f32⟩
  | 21 => ⟨S10000x64, .f32⟩
  | 22 => ⟨S10000x64, .f32⟩
  | 23 => ⟨S1x64, .f32⟩
  | 24 => ⟨S10000x64, .f32⟩
  | 25 => ⟨S10000x64, .f32⟩
  | 26 => ⟨S_, .f32⟩
  | 27 => ⟨S10000x64, .f32⟩
  | 28 => ⟨S10000x64, .f32⟩
  | 29 => ⟨S10000x1, .i32⟩
  | 30 => ⟨S1x16, .i32⟩
  | 31 => ⟨S10000x16, .i32⟩
  | 32 => ⟨S10000x16, .i32⟩
  | 33 => ⟨S10000x16, .i1⟩
  | 34 => ⟨S10000x16, .f32⟩
  | 35 => ⟨S_, .f32⟩
  | 36 => ⟨S16, .f32⟩
  | 37 => ⟨S10000, .f32⟩
  | 38 => ⟨S16x16, .i32⟩
  | 39 => ⟨S16x16, .i32⟩
  | 40 => ⟨S_, .i32⟩
  | 41 => ⟨S16x16, .i32⟩
  | 42 => ⟨S16x16, .i32⟩
  | 43 => ⟨S16x16, .i1⟩
  | 44 => ⟨S16x16, .f32⟩
  | 45 => ⟨S_, .f32⟩
  | 46 => ⟨S16x16, .f32⟩
  | 47 => ⟨S16x16, .f32⟩
  | 48 => ⟨S10000x64, .f32⟩
  | 49 => ⟨S10000x64, .f32⟩
  | 50 => ⟨S1x64x64, .f32⟩
  | 51 => ⟨S64x64, .f32⟩
  | 52 => ⟨S10000x64, .f32⟩
  | 53 => ⟨S1x64x64, .f32⟩
  | 54 => ⟨S64x64, .f32⟩
  | 55 => ⟨S10000x64, .f32⟩
  | 56 => ⟨S10000x64, .f32⟩
  | 57 => ⟨S1x64x64, .f32⟩
  | 58 => ⟨S64x64, .f32⟩
  | 59 => ⟨S10000x64, .f32⟩
  | 60 => ⟨S1x64x64, .f32⟩
  | 61 => ⟨S64x64, .f32⟩
  | 62 => ⟨S10000x64, .f32⟩
  | 63 => ⟨S10000x64, .f32⟩
  | 64 => ⟨S10000x128, .f32⟩
  | 65 => ⟨S1x128x16, .f32⟩
  | 66 => ⟨S128x16, .f32⟩
  | 67 => ⟨S10000x16, .f32⟩
  | 68 => ⟨S_, .f32⟩
  | 69 => ⟨S10000, .f32⟩
  | 70 => ⟨S_, .f32⟩
  | 71 => ⟨S10000, .f32⟩
  | 72 => ⟨S10000, .f32⟩
  | 73 => ⟨S10000x1, .f32⟩
  | 74 => ⟨S10000x16, .f32⟩
  | 75 => ⟨S10000x16, .f32⟩
  | 76 => ⟨S10000x16, .f32⟩
  | 77 => ⟨S_, .f32⟩
  | 78 => ⟨S10000, .f32⟩
  | 79 => ⟨S10000x1, .f32⟩
  | 80 => ⟨S10000x1, .f32⟩
  | 81 => ⟨S10000x16, .f32⟩
  | 82 => ⟨S10000x16, .f32⟩
  | 83 => ⟨S10000x16, .f32⟩
  | 84 => ⟨S_, .f32⟩
  | 85 => ⟨S10000, .f32⟩
  | 86 => ⟨S10000, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S10000x64, .f32⟩
  | 96 => ⟨S10000x64, .f32⟩
  | 97 => ⟨S10000x64, .f32⟩
  | 98 => ⟨S_, .f32⟩
  | 99 => ⟨S10000x64, .f32⟩
  | 100 => ⟨S10000x64, .i1⟩
  | 101 => ⟨S_, .f32⟩
  | 102 => ⟨S_, .f32⟩
  | 103 => ⟨S10000x64, .f32⟩
  | 104 => ⟨S10000x64, .f32⟩
  | 105 => ⟨S_, .f32⟩
  | 106 => ⟨S_, .f32⟩
  | 107 => ⟨S10000x64, .f32⟩
  | 108 => ⟨S10000x64, .f32⟩
  | 109 => ⟨S10000x64, .f32⟩
  | 110 => ⟨S_, .f32⟩
  | 111 => ⟨S_, .f32⟩
  | 112 => ⟨S10000x64, .f32⟩
  | 113 => ⟨S10000x64, .f32⟩
  | 114 => ⟨S16x10000, .f32⟩
  | 115 => ⟨S16x64, .f32⟩
  | 116 => ⟨S16x1, .f32⟩
  | 117 => ⟨S_, .f32⟩
  | 118 => ⟨S16x1, .f32⟩
  | 119 => ⟨S16x1, .f32⟩
  | 120 => ⟨S16x64, .f32⟩
  | 121 => ⟨S16x64, .f32⟩
  | 122 => ⟨S16x1x64, .f32⟩
  | 123 => ⟨S1x16x64, .f32⟩
  | 124 => ⟨S16x16x64, .f32⟩
  | 125 => ⟨S16x16x64, .f32⟩
  | 126 => ⟨S16x16x64, .f32⟩
  | 127 => ⟨S16x16x64, .f32⟩
  | _ => ⟨S10000x128, .f32⟩

abbrev hbmTy0_1 (i : Nat) : BufTy := match i % 128 with
  | 0 => ⟨S16x16x1, .f32⟩
  | 1 => ⟨S16x16x64, .f32⟩
  | 2 => ⟨S16x16x64, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S10000x64, .f32⟩
  | 16 => ⟨S10000x64, .f32⟩
  | 17 => ⟨S_, .f32⟩
  | 18 => ⟨S10000x64, .f32⟩
  | 19 => ⟨S10000x64, .f32⟩
  | 20 => ⟨S10000x64, .f32⟩
  | 21 => ⟨S10000x64, .f32⟩
  | 22 => ⟨S1x64x64, .f32⟩
  | 23 => ⟨S64x64, .f32⟩
  | 24 => ⟨S10000x64, .f32⟩
  | 25 => ⟨S1x64x64, .f32⟩
  | 26 => ⟨S64x64, .f32⟩
  | 27 => ⟨S10000x64, .f32⟩
  | 28 => ⟨S10000x64, .f32⟩
  | 29 => ⟨S1x64x64, .f32⟩
  | 30 => ⟨S64x64, .f32⟩
  | 31 => ⟨S10000x64, .f32⟩
  | 32 => ⟨S1x64x64, .f32⟩
  | 33 => ⟨S64x64, .f32⟩
  | 34 => ⟨S10000x64, .f32⟩
  | 35 => ⟨S10000x64, .f32⟩
  | 36 => ⟨S10000x128, .f32⟩
  | 37 => ⟨S1x128x16, .f32⟩
  | 38 => ⟨S128x16, .f32⟩
  | 39 => ⟨S10000x16, .f32⟩
  | 40 => ⟨S_, .f32⟩
  | 41 => ⟨S10000, .f32⟩
  | 42 => ⟨S_, .f32⟩
  | 43 => ⟨S10000, .f32⟩
  | 44 => ⟨S10000, .f32⟩
  | 45 => ⟨S10000x1, .f32⟩
  | 46 => ⟨S10000x16, .f32⟩
  | 47 => ⟨S10000x16, .f32⟩
  | 48 => ⟨S10000x16, .f32⟩
  | 49 => ⟨S_, .f32⟩
  | 50 => ⟨S10000, .f32⟩
  | 51 => ⟨S10000x1, .f32⟩
  | 52 => ⟨S10000x1, .f32⟩
  | 53 => ⟨S10000x16, .f32⟩
  | 54 => ⟨S10000x16, .f32⟩
  | 55 => ⟨S10000x16, .f32⟩
  | 56 => ⟨S_, .f32⟩
  | 57 => ⟨S10000, .f32⟩
  | 58 => ⟨S10000, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S10000x64, .f32⟩
  | 68 => ⟨S10000x64, .f32⟩
  | 69 => ⟨S10000x64, .f32⟩
  | 70 => ⟨S_, .f32⟩
  | 71 => ⟨S10000x64, .f32⟩
  | 72 => ⟨S10000x64, .i1⟩
  | 73 => ⟨S_, .f32⟩
  | 74 => ⟨S_, .f32⟩
  | 75 => ⟨S10000x64, .f32⟩
  | 76 => ⟨S10000x64, .f32⟩
  | 77 => ⟨S_, .f32⟩
  | 78 => ⟨S_, .f32⟩
  | 79 => ⟨S10000x64, .f32⟩
  | 80 => ⟨S10000x64, .f32⟩
  | 81 => ⟨S10000x64, .f32⟩
  | 82 => ⟨S_, .f32⟩
  | 83 => ⟨S_, .f32⟩
  | 84 => ⟨S10000x64, .f32⟩
  | 85 => ⟨S10000x64, .f32⟩
  | 86 => ⟨S16x10000, .f32⟩
  | 87 => ⟨S16x64, .f32⟩
  | 88 => ⟨S16x1, .f32⟩
  | 89 => ⟨S_, .f32⟩
  | 90 => ⟨S16x1, .f32⟩
  | 91 => ⟨S16x1, .f32⟩
  | 92 => ⟨S16x64, .f32⟩
  | 93 => ⟨S16x64, .f32⟩
  | 94 => ⟨S16x1x64, .f32⟩
  | 95 => ⟨S1x16x64, .f32⟩
  | 96 => ⟨S16x16x64, .f32⟩
  | 97 => ⟨S16x16x64, .f32⟩
  | 98 => ⟨S16x16x64, .f32⟩
  | 99 => ⟨S16x16x64, .f32⟩
  | 100 => ⟨S16x16x1, .f32⟩
  | 101 => ⟨S16x16x64, .f32⟩
  | 102 => ⟨S16x16x64, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S10000x64, .f32⟩
  | 114 => ⟨S10000x64, .f32⟩
  | 115 => ⟨S_, .f32⟩
  | 116 => ⟨S10000x64, .f32⟩
  | 117 => ⟨S10000x64, .f32⟩
  | 118 => ⟨S10000x64, .f32⟩
  | 119 => ⟨S10000x64, .f32⟩
  | 120 => ⟨S10000x64, .f32⟩
  | 121 => ⟨S_, .f32⟩
  | 122 => ⟨S10000x64, .f32⟩
  | 123 => ⟨S10000x64, .i1⟩
  | 124 => ⟨S_, .f32⟩
  | 125 => ⟨S_, .f32⟩
  | 126 => ⟨S10000x64, .f32⟩
  | 127 => ⟨S10000x64, .f32⟩
  | _ => ⟨S10000x128, .f32⟩

abbrev hbmTy0_2 (i : Nat) : BufTy := match i % 128 with
  | 0 => ⟨S_, .f32⟩
  | 1 => ⟨S_, .f32⟩
  | 2 => ⟨S10000x64, .f32⟩
  | 3 => ⟨S10000x64, .f32⟩
  | 4 => ⟨S10000x64, .f32⟩
  | 5 => ⟨S_, .f32⟩
  | 6 => ⟨S_, .f32⟩
  | 7 => ⟨S10000x64, .f32⟩
  | 8 => ⟨S10000x64, .f32⟩
  | 9 => ⟨S10000x64, .f32⟩
  | 10 => ⟨S10000x64, .f32⟩
  | 11 => ⟨S10000x64, .f32⟩
  | 12 => ⟨S_, .f32⟩
  | 13 => ⟨S10000x64, .f32⟩
  | 14 => ⟨S10000x64, .f32⟩
  | 15 => ⟨S10000x64, .f32⟩
  | 16 => ⟨S10000x16, .f32⟩
  | 17 => ⟨S10000x16, .f32⟩
  | 18 => ⟨S10000x16, .f32⟩
  | 19 => ⟨S1x16, .f32⟩
  | 20 => ⟨S10000x16, .f32⟩
  | 21 => ⟨S10000x16, .f32⟩
  | 22 => ⟨S10000x16, .f32⟩
  | 23 => ⟨S10000x16, .f32⟩
  | 24 => ⟨S10000x16, .f32⟩
  | 25 => ⟨S1x16, .f32⟩
  | 26 => ⟨S10000x16, .f32⟩
  | 27 => ⟨S10000x16, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call1_cst : Ref sig .tc := ⟨.hbm, 68, rfl⟩
abbrev main_call1_v0 : Ref sig .tc := ⟨.hbm, 69, rfl⟩
abbrev main_call1_cst_0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_cst_1 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_v43 : Ref sig .tc := ⟨.hbm, 82, rfl⟩
abbrev main_v44 : Ref sig .tc := ⟨.hbm, 83, rfl⟩
abbrev main_cst_3 : Ref sig .tc := ⟨.hbm, 84, rfl⟩
abbrev main_v45 : Ref sig .tc := ⟨.hbm, 85, rfl⟩
abbrev main_v46 : Ref sig .tc := ⟨.hbm, 86, rfl⟩
abbrev main_cst_4 : Ref sig .tc := ⟨.hbm, 87, rfl⟩
abbrev main_v47 : Ref sig .tc := ⟨.hbm, 88, rfl⟩
abbrev main_v48 : Ref sig .tc := ⟨.hbm, 89, rfl⟩
abbrev main_cst_5 : Ref sig .tc := ⟨.hbm, 90, rfl⟩
abbrev main_v49 : Ref sig .tc := ⟨.hbm, 91, rfl⟩
abbrev main_cst_6 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_7 : Ref sig .tc := ⟨.hbm, 98, rfl⟩
abbrev main_v55 : Ref sig .tc := ⟨.hbm, 99, rfl⟩
abbrev main_v56 : Ref sig .tc := ⟨.hbm, 100, rfl⟩
abbrev main_cst_8 : Ref sig .tc := ⟨.hbm, 101, rfl⟩
abbrev main_call2_v0 : Ref sig .tc := ⟨.hbm, 102, rfl⟩
abbrev main_call2_v1 : Ref sig .tc := ⟨.hbm, 103, rfl⟩
abbrev main_v57 : Ref sig .tc := ⟨.hbm, 104, rfl⟩
abbrev main_cst_9 : Ref sig .tc := ⟨.hbm, 105, rfl⟩
abbrev main_call3_v0 : Ref sig .tc := ⟨.hbm, 106, rfl⟩
abbrev main_call3_v1 : Ref sig .tc := ⟨.hbm, 107, rfl⟩
abbrev main_v58 : Ref sig .tc := ⟨.hbm, 108, rfl⟩
abbrev main_v59 : Ref sig .tc := ⟨.hbm, 109, rfl⟩
abbrev main_cst_10 : Ref sig .tc := ⟨.hbm, 110, rfl⟩
abbrev main_call4_v0 : Ref sig .tc := ⟨.hbm, 111, rfl⟩
abbrev main_call4_v1 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_cst_11 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_cst_12 : Ref sig .tc := ⟨.hbm, 131, rfl⟩
abbrev main_v77 : Ref sig .tc := ⟨.hbm, 132, rfl⟩
abbrev main_cst_13 : Ref sig .tc := ⟨.hbm, 133, rfl⟩
abbrev main_v78 : Ref sig .tc := ⟨.hbm, 134, rfl⟩
abbrev main_cst_14 : Ref sig .tc := ⟨.hbm, 135, rfl⟩
abbrev main_v79 : Ref sig .tc := ⟨.hbm, 136, rfl⟩
abbrev main_v80 : Ref sig .tc := ⟨.hbm, 137, rfl⟩
abbrev main_cst_15 : Ref sig .tc := ⟨.hbm, 138, rfl⟩
abbrev main_v81 : Ref sig .tc := ⟨.hbm, 139, rfl⟩
abbrev main_cst_16 : Ref sig .tc := ⟨.hbm, 140, rfl⟩
abbrev main_v82 : Ref sig .tc := ⟨.hbm, 141, rfl⟩
abbrev main_cst_17 : Ref sig .tc := ⟨.hbm, 142, rfl⟩
abbrev main_v83 : Ref sig .tc := ⟨.hbm, 143, rfl⟩
abbrev main_v84 : Ref sig .tc := ⟨.hbm, 144, rfl⟩
abbrev main_cst_18 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_call5_cst : Ref sig .tc := ⟨.hbm, 168, rfl⟩
abbrev main_call5_v0 : Ref sig .tc := ⟨.hbm, 169, rfl⟩
abbrev main_call5_cst_0 : Ref sig .tc := ⟨.hbm, 170, rfl⟩
abbrev main_call5_v1 : Ref sig .tc := ⟨.hbm, 171, rfl⟩
abbrev main_call5_v2 : Ref sig .tc := ⟨.hbm, 172, rfl⟩
abbrev main_call5_v3 : Ref sig .tc := ⟨.hbm, 173, rfl⟩
abbrev main_call5_v4 : Ref sig .tc := ⟨.hbm, 174, rfl⟩
abbrev main_call5_v5 : Ref sig .tc := ⟨.hbm, 175, rfl⟩
abbrev main_call5_v6 : Ref sig .tc := ⟨.hbm, 176, rfl⟩
abbrev main_call5_cst_1 : Ref sig .tc := ⟨.hbm, 177, rfl⟩
abbrev main_call5_v7 : Ref sig .tc := ⟨.hbm, 178, rfl⟩
abbrev main_call5_v8 : Ref sig .tc := ⟨.hbm, 179, rfl⟩
abbrev main_call5_v9 : Ref sig .tc := ⟨.hbm, 180, rfl⟩
abbrev main_call5_v10 : Ref sig .tc := ⟨.hbm, 181, rfl⟩
abbrev main_v107 : Ref sig .tc := ⟨.hbm, 182, rfl⟩
abbrev main_v108 : Ref sig .tc := ⟨.hbm, 183, rfl⟩
abbrev main_cst_19 : Ref sig .tc := ⟨.hbm, 184, rfl⟩
abbrev main_v109 : Ref sig .tc := ⟨.hbm, 185, rfl⟩
abbrev main_v110 : Ref sig .tc := ⟨.hbm, 186, rfl⟩
abbrev main_cst_20 : Ref sig .tc := ⟨.hbm, 187, rfl⟩
abbrev main_v111 : Ref sig .tc := ⟨.hbm, 188, rfl⟩
abbrev main_v112 : Ref sig .tc := ⟨.hbm, 189, rfl⟩
abbrev main_cst_21 : Ref sig .tc := ⟨.hbm, 190, rfl⟩
abbrev main_v113 : Ref sig .tc := ⟨.hbm, 191, rfl⟩
abbrev main_cst_22 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_cst_23 : Ref sig .tc := ⟨.hbm, 198, rfl⟩
abbrev main_v119 : Ref sig .tc := ⟨.hbm, 199, rfl⟩
abbrev main_v120 : Ref sig .tc := ⟨.hbm, 200, rfl⟩
abbrev main_cst_24 : Ref sig .tc := ⟨.hbm, 201, rfl⟩
abbrev main_call6_v0 : Ref sig .tc := ⟨.hbm, 202, rfl⟩
abbrev main_call6_v1 : Ref sig .tc := ⟨.hbm, 203, rfl⟩
abbrev main_v121 : Ref sig .tc := ⟨.hbm, 204, rfl⟩
abbrev main_cst_25 : Ref sig .tc := ⟨.hbm, 205, rfl⟩
abbrev main_call7_v0 : Ref sig .tc := ⟨.hbm, 206, rfl⟩
abbrev main_call7_v1 : Ref sig .tc := ⟨.hbm, 207, rfl⟩
abbrev main_v122 : Ref sig .tc := ⟨.hbm, 208, rfl⟩
abbrev main_v123 : Ref sig .tc := ⟨.hbm, 209, rfl⟩
abbrev main_cst_26 : Ref sig .tc := ⟨.hbm, 210, rfl⟩
abbrev main_call8_v0 : Ref sig .tc := ⟨.hbm, 211, rfl⟩
abbrev main_call8_v1 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_cst_27 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_cst_28 : Ref sig .tc := ⟨.hbm, 231, rfl⟩
abbrev main_v141 : Ref sig .tc := ⟨.hbm, 232, rfl⟩
abbrev main_cst_29 : Ref sig .tc := ⟨.hbm, 233, rfl⟩
abbrev main_v142 : Ref sig .tc := ⟨.hbm, 234, rfl⟩
abbrev main_cst_30 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_cst_31 : Ref sig .tc := ⟨.hbm, 240, rfl⟩
abbrev main_v147 : Ref sig .tc := ⟨.hbm, 241, rfl⟩
abbrev main_v148 : Ref sig .tc := ⟨.hbm, 242, rfl⟩
abbrev main_cst_32 : Ref sig .tc := ⟨.hbm, 243, rfl⟩
abbrev main_v149 : Ref sig .tc := ⟨.hbm, 244, rfl⟩
abbrev main_v150 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_cst_33 : Ref sig .tc := ⟨.hbm, 249, rfl⟩
abbrev main_v154 : Ref sig .tc := ⟨.hbm, 250, rfl⟩
abbrev main_v155 : Ref sig .tc := ⟨.hbm, 251, rfl⟩
abbrev main_cst_34 : Ref sig .tc := ⟨.hbm, 252, rfl⟩
abbrev main_call9_v0 : Ref sig .tc := ⟨.hbm, 253, rfl⟩
abbrev main_call9_v1 : Ref sig .tc := ⟨.hbm, 254, rfl⟩
abbrev main_v156 : Ref sig .tc := ⟨.hbm, 255, rfl⟩
abbrev main_cst_35 : Ref sig .tc := ⟨.hbm, 256, rfl⟩
abbrev main_call10_v0 : Ref sig .tc := ⟨.hbm, 257, rfl⟩
abbrev main_call10_v1 : Ref sig .tc := ⟨.hbm, 258, rfl⟩
abbrev main_v157 : Ref sig .tc := ⟨.hbm, 259, rfl⟩
abbrev main_v158 : Ref sig .tc := ⟨.hbm, 260, rfl⟩
abbrev main_cst_36 : Ref sig .tc := ⟨.hbm, 261, rfl⟩
abbrev main_call11_v0 : Ref sig .tc := ⟨.hbm, 262, rfl⟩
abbrev main_call11_v1 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_cst_37 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_v166 : Ref sig .tc := ⟨.hbm, 272, rfl⟩
abbrev main_v167 : Ref sig .tc := ⟨.hbm, 273, rfl⟩
abbrev main_v168 : Ref sig .tc := ⟨.hbm, 274, rfl⟩
abbrev main_v169 : Ref sig .tc := ⟨.hbm, 275, rfl⟩
abbrev main_v170 : Ref sig .tc := ⟨.hbm, 276, rfl⟩
abbrev main_v171 : Ref sig .tc := ⟨.hbm, 277, rfl⟩
abbrev main_v172 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_v176 : Ref sig .tc := ⟨.hbm, 282, rfl⟩
abbrev main_v177 : Ref sig .tc := ⟨.hbm, 283, rfl⟩

abbrev nD : Nat := 1
abbrev τ : Topo := Topo.v7x

variable {F : FTy → Type} [FloatOps F]
-- ==== Proof.Body.lean ====
/- # The words the body decides on, and what one grid point does to each buffer

A grid point `t` runs layer `t / 25` on the row block `t % 25`. -/
module

public import proofs.«01_k».proof.Proof.Gen.KernelIdeal.Frame
public import proofs.«01_k».proof.Proof.Gen.KernelIdeal.Skeleton
public import Idealize.ShloMosaic.Lib.VecWindow
public import Idealize.ShloMosaic.Lib.Pipeline.Covers
public import Idealize.ShloMosaic.Lib.Pipeline.ValueKit.Acc

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The layer of a grid point, as the body computes it. -/
abbrev lw (i : grid0.Coords) : BitVec 32 :=
  Scalar.select
    (Scalar.andi
      (Scalar.cmpi .ne
        (Scalar.subi (Scalar.extui (Scalar.cmpi .sgt (BitVec.ofNat 32 (i 0).val) 0#32)) (Scalar.extui (Scalar.cmpi .slt (BitVec.ofNat 32 (i 0).val) 0#32)))
        (Scalar.subi (Scalar.extui (Scalar.cmpi .sgt 25#32 0#32)) (Scalar.extui (Scalar.cmpi .slt 25#32 0#32))))
      (Scalar.cmpi .ne (Scalar.remsi (BitVec.ofNat 32 (i 0).val) 25#32) 0#32))
    (Scalar.subi (Scalar.divsi (BitVec.ofNat 32 (i 0).val) 25#32) 1#32)
    (Scalar.divsi (BitVec.ofNat 32 (i 0).val) 25#32)

/-- The row block of a grid point, as the body computes it. -/
abbrev bw (i : grid0.Coords) : BitVec 32 :=
  Scalar.select
    (Scalar.andi
      (Scalar.xori (Scalar.cmpi .slt (Scalar.remsi (BitVec.ofNat 32 (i 0).val) (Scalar.select (Scalar.cmpi .eq 25#32 0#32) 1#32 25#32)) 0#32)
        (Scalar.cmpi .slt (Scalar.select (Scalar.cmpi .eq 25#32 0#32) 1#32 25#32) 0#32))
      (Scalar.cmpi .ne (Scalar.remsi (BitVec.ofNat 32 (i 0).val) (Scalar.select (Scalar.cmpi .eq 25#32 0#32) 1#32 25#32)) 0#32))
    (Scalar.addi (Scalar.remsi (BitVec.ofNat 32 (i 0).val) (Scalar.select (Scalar.cmpi .eq 25#32 0#32) 1#32 25#32)) (Scalar.select (Scalar.cmpi .eq 25#32 0#32) 1#32 25#32))
    (Scalar.remsi (BitVec.ofNat 32 (i 0).val) (Scalar.select (Scalar.cmpi .eq 25#32 0#32) 1#32 25#32))

/-- Layer 0, block 0. -/
abbrev IsStart (i : grid0.Coords) : Prop :=
  Scalar.cmpi .ne (Scalar.extui (Scalar.andi (Scalar.cmpi .eq (lw i) 0#32) (Scalar.cmpi .eq (bw i) 0#32))) 0#32 = 1#1
/-- Block 0 of a layer. -/
abbrev IsFirst (i : grid0.Coords) : Prop :=
  Scalar.cmpi .ne (Scalar.extui (Scalar.cmpi .eq (bw i) 0#32)) 0#32 = 1#1
/-- Layer 0. -/
abbrev IsLayer0 (i : grid0.Coords) : Prop :=
  Scalar.cmpi .ne (Scalar.extui (Scalar.cmpi .eq (lw i) 0#32)) 0#32 = 1#1
/-- A layer before the last. -/
abbrev IsInner (i : grid0.Coords) : Prop :=
  Scalar.cmpi .ne (Scalar.extui (Scalar.cmpi .slt (lw i) 1#32)) 0#32 = 1#1

theorem isStart_iff : ∀ t : Fin grid0.N, IsStart (grid0.coords t) ↔ t.val = 0 := by decide +kernel
theorem isFirst_iff : ∀ t : Fin grid0.N, IsFirst (grid0.coords t) ↔ t.val % 25 = 0 := by decide +kernel
theorem isLayer0_iff : ∀ t : Fin grid0.N, IsLayer0 (grid0.coords t) ↔ t.val < 25 := by decide +kernel
theorem isInner_iff : ∀ t : Fin grid0.N, IsInner (grid0.coords t) ↔ t.val < 25 := by decide +kernel
theorem cond5_iff : ∀ t : Fin grid0.N, k0_cond5 (grid0.coords t) = 1#1 ↔ 25 ≤ t.val := by decide +kernel
theorem cond6_iff : ∀ t : Fin grid0.N, k0_cond6 (grid0.coords t) = 1#1 ↔ t.val % 25 = 24 := by decide +kernel
theorem cond8_iff : ∀ t : Fin grid0.N, k0_cond8 (grid0.coords t) = 1#1 ↔ 25 ≤ t.val := by decide +kernel

/-- The rows a point's block takes of the labels and of the mask. -/
theorem off1_eq : ∀ t : Fin grid0.N, k0_off1 (grid0.coords t) = ![400 * (t.val % 25), 0] := by decide +kernel
/-- The rows a point's block takes of the next layer's features. -/
theorem off2_eq : ∀ t : Fin grid0.N, k0_off2 (grid0.coords t) = ![400 * (t.val % 25), 0] := by decide +kernel

/-- The same at any grid coordinates. -/
theorem off2_at (i : grid0.Coords) : k0_off2 i = ![400 * ((i 0).val % 25), 0] := by
  obtain ⟨t, rfl⟩ := Pipeline.Grid.coords_surjective grid0 i
  revert t; decide +kernel
instance (i : grid0.Coords) : ClosedOff (k0_off2 i) := ⟨![400 * ((i 0).val % 25), 0], off2_at i⟩

/-! ## What one point does, as functions of what it finds -/

/-- The block's 400 rows of a column. -/
abbrev rows (i : grid0.Coords) {e : EltTy} (x : Vec F S10000x1 e) : Vec F S400x1 e :=
  View.ld x (Rect.unit (s := S10000x1) (k0_off1 i) S400x1.size (k0_off1_inb i))

/-- The class means after the block, from what they were. -/
abbrev cmStep (i : grid0.Coords) (x0 x1 : Vec F S200x10000 .f32) (x5 : Vec F S1x128x128 .f32) (x9 : Vec F S10000x1 .i32)
    (h : Vec F S10000x128 .f32) (old : Vec F S16x64 .f32) : Vec F S16x64 .f32 :=
  k0_pay1 (k0_pay25 (k0_pay24 (F := F) (rows i x9))) (k0_pay29 (k0_pay21 x0 h x1 h x5) (k0_pay22 x0 h x1 h x5))
    (k0_pay30 (k0_pay21 x0 h x1 h x5) (k0_pay22 x0 h x1 h x5)) k0_pay31 old

/-- The class counts after the block, from what they were. -/
abbrev cntStep (i : grid0.Coords) (x9 : Vec F S10000x1 .i32) (old : Vec F S16x64 .f32) : Vec F S16x64 .f32 :=
  k0_pay2 (k0_pay25 (k0_pay24 (F := F) (rows i x9))) old

/-- The sum of log-probabilities after the block, from what it was. -/
abbrev supStep (i : grid0.Coords) (x0 x1 : Vec F S200x10000 .f32) (x5 : Vec F S1x128x128 .f32) (x6 : Vec F S1x128x16 .f32)
    (x9 : Vec F S10000x1 .i32) (x10 : Vec F S10000x1 .f32) (h : Vec F S10000x128 .f32) (old : Vec F S1x1 .f32) : Vec F S1x1 .f32 :=
  k0_pay27 (k0_pay23 x0 h x1 h x5 x6) (k0_pay24 (F := F) (rows i x9)) (rows i x10) old

/-- The sum of the mask after the block, from what it was. -/
abbrev mskStep (i : grid0.Coords) (x10 : Vec F S10000x1 .f32) (old : Vec F S1x1 .f32) : Vec F S1x1 .f32 :=
  k0_pay28 (rows i x10) old

/-- The next layer's features after the block, from what they were: the block's 400 rows are replaced. -/
abbrev nxtStep (i : grid0.Coords) (x0 x1 : Vec F S200x10000 .f32) (x5 : Vec F S1x128x128 .f32)
    (h : Vec F S10000x128 .f32) (old : Vec F S10000x128 .f32) : Vec F S10000x128 .f32 :=
  VecWindow.put (α := Elt F .f32) old (k0_off2 i) S400x128.size (k0_pay3 (k0_pay20 x0 h x1 h x5))

/-- The ownership of the body's twenty-six buffers at given contents: eleven inputs, eight outputs, seven scratch buffers. -/
def held (c : Dev nD) (a1 : Memref sig .tc .vmem S200x10000 .f32) (a2 : Memref sig .tc .vmem S200x10000 .f32) (a3 : Memref sig .tc .vmem S10000x128 .f32) (a4 : Memref sig
    .tc .vmem S128x128 .f32) (a5 : Memref sig .tc .vmem S1x128 .f32) (a6 : Memref sig .tc .vmem S1x128x128 .f32) (a7 : Memref sig .tc .vmem S1x128x16
    .f32) (a8 : Memref sig .tc .vmem S128x32 .f32) (a9 : Memref sig .tc .vmem S1x32 .f32) (a10 : Memref sig .tc .vmem S10000x1 .i32) (a11 : Memref sig .tc
    .vmem S10000x1 .f32) (a12 : Memref sig .tc .vmem S400x64 .f32) (a13 : Memref sig .tc .vmem S400x64 .f32) (a14 : Memref sig .tc .vmem S400x64 .f32)
    (a15 : Memref sig .tc .vmem S400x64 .f32) (a16 : Memref sig .tc .vmem S400x16 .f32) (a17 : Memref sig .tc .vmem S400x16 .f32) (a18 : Memref sig .tc
    .vmem S1x1 .f32) (a19 : Memref sig .tc .vmem S1x1 .f32) (a20 : Memref sig .tc .vmem S10000x128 .f32) (a21 : Memref sig .tc .vmem S10000x128 .f32) (a22
    : Memref sig .tc .vmem S16x64 .f32) (a23 : Memref sig .tc .vmem S16x64 .f32) (a24 : Memref sig .tc .vmem S1x1 .f32) (a25 : Memref sig .tc .vmem S1x1
    .f32) (a26 : Memref sig .tc .vmem S1x1 .f32)
    (x0 : Vec F S200x10000 .f32) (x1 : Vec F S200x10000 .f32) (x2 : Vec F S10000x128 .f32) (x3 : Vec F S128x128 .f32) (x4 : Vec F S1x128 .f32) (x5 : Vec F
    S1x128x128 .f32) (x6 : Vec F S1x128x16 .f32) (x7 : Vec F S128x32 .f32) (x8 : Vec F S1x32 .f32) (x9 : Vec F S10000x1 .i32) (x10 : Vec F S10000x1 .f32)
    (o11 : Vec F S400x64 .f32) (o12 : Vec F S400x64 .f32) (o13 : Vec F S400x64 .f32) (o14 : Vec F S400x64 .f32) (o15 : Vec F S400x16 .f32) (o16 : Vec F
    S400x16 .f32) (o17 : Vec F S1x1 .f32) (o18 : Vec F S1x1 .f32) (hc : Vec F S10000x128 .f32) (hn : Vec F S10000x128 .f32) (cm : Vec F S16x64 .f32) (cnt
    : Vec F S16x64 .f32) (sup : Vec F S1x1 .f32) (msk : Vec F S1x1 .f32) (sep : Vec F S1x1 .f32) : sProp 𝕄 :=
  iprop(owns (c : Thread nD τ) a1 fullShare x0 ∗ owns (c : Thread nD τ) a2 fullShare x1 ∗ owns (c : Thread nD τ) a3 fullShare x2 ∗ owns (c : Thread nD τ) a4
    fullShare x3 ∗ owns (c : Thread nD τ) a5 fullShare x4 ∗ owns (c : Thread nD τ) a6 fullShare x5 ∗ owns (c : Thread nD τ) a7 fullShare x6 ∗ owns (c :
    Thread nD τ) a8 fullShare x7 ∗ owns (c : Thread nD τ) a9 fullShare x8 ∗ owns (c : Thread nD τ) a10 fullShare x9 ∗ owns (c : Thread nD τ) a11 fullShare
    x10 ∗ owns (c : Thread nD τ) a12 fullShare o11 ∗ owns (c : Thread nD τ) a13 fullShare o12 ∗ owns (c : Thread nD τ) a14 fullShare o13 ∗ owns (c :
    Thread nD τ) a15 fullShare o14 ∗ owns (c : Thread nD τ) a16 fullShare o15 ∗ owns (c : Thread nD τ) a17 fullShare o16 ∗ owns (c : Thread nD τ) a18
    fullShare o17 ∗ owns (c : Thread nD τ) a19 fullShare o18 ∗ owns (c : Thread nD τ) a20 fullShare hc ∗ owns (c : Thread nD τ) a21 fullShare hn ∗ owns (c
    : Thread nD τ) a22 fullShare cm ∗ owns (c : Thread nD τ) a23 fullShare cnt ∗ owns (c : Thread nD τ) a24 fullShare sup ∗ owns (c : Thread nD τ) a25
    fullShare msk ∗ owns (c : Thread nD τ) a26 fullShare sep)

end Cert.KernelIdeal.Body

end
-- ==== Proof.Runs.lean ====
/- # One run of the body, in each of its six cases

Each theorem takes the twenty-six buffers at their contents to the same buffers at what the point leaves in them. -/
module

public import proofs.«01_k».proof.Proof.Body

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Handing a buffer back after its stores: what it reads is what was to be held. -/
theorem owns_of_writes (c : Dev nD) {sp : Space} {s : Shape} {e : EltTy} (a : Memref sig .tc sp s e) (f : a.view.ty.Contents (Elt F))
    (L : List (View.Piece (Elt F) s e)) (X : Vec F s e) (h : a.view.read (Elt F) (a.view.writes (Elt F) f L) = X) :
    (a.view.loc (c : Thread nD τ) ↦[a.view.set]{fullShare} a.view.writes (Elt F) f L : sProp 𝕄) ⊢ owns (c : Thread nD τ) a fullShare X := by
  unfold owns; iintro H; iexists _; isplitr; swap; · iexact H
  ipureintro; exact h

set_option maxHeartbeats 3200000 in
/-- At the first point of all. -/
theorem run_start (c : Dev nD) (i : grid0.Coords) (a1 : Memref sig .tc .vmem S200x10000 .f32) (ha1 : a1.IsWhole) (a2 : Memref sig .tc .vmem S200x10000 .f32) (ha2 : a2.IsWhole) (a3 : Memref sig .tc
    .vmem S10000x128 .f32) (ha3 : a3.IsWhole) (a4 : Memref sig .tc .vmem S128x128 .f32) (ha4 : a4.IsWhole) (a5 : Memref sig .tc .vmem S1x128 .f32) (ha5 :
    a5.IsWhole) (a6 : Memref sig .tc .vmem S1x128x128 .f32) (ha6 : a6.IsWhole) (a7 : Memref sig .tc .vmem S1x128x16 .f32) (ha7 : a7.IsWhole) (a8 : Memref
    sig .tc .vmem S128x32 .f32) (ha8 : a8.IsWhole) (a9 : Memref sig .tc .vmem S1x32 .f32) (ha9 : a9.IsWhole) (a10 : Memref sig .tc .vmem S10000x1 .i32)
    (ha10 : a10.IsWhole) (a11 : Memref sig .tc .vmem S10000x1 .f32) (ha11 : a11.IsWhole) (a12 : Memref sig .tc .vmem S400x64 .f32) (ha12 : a12.IsWhole)
    (a13 : Memref sig .tc .vmem S400x64 .f32) (ha13 : a13.IsWhole) (a14 : Memref sig .tc .vmem S400x64 .f32) (ha14 : a14.IsWhole) (a15 : Memref sig .tc
    .vmem S400x64 .f32) (ha15 : a15.IsWhole) (a16 : Memref sig .tc .vmem S400x16 .f32) (ha16 : a16.IsWhole) (a17 : Memref sig .tc .vmem S400x16 .f32)
    (ha17 : a17.IsWhole) (a18 : Memref sig .tc .vmem S1x1 .f32) (ha18 : a18.IsWhole) (a19 : Memref sig .tc .vmem S1x1 .f32) (ha19 : a19.IsWhole) (a20 :
    Memref sig .tc .vmem S10000x128 .f32) (ha20 : a20.IsWhole) (a21 : Memref sig .tc .vmem S10000x128 .f32) (ha21 : a21.IsWhole) (a22 : Memref sig .tc
    .vmem S16x64 .f32) (ha22 : a22.IsWhole) (a23 : Memref sig .tc .vmem S16x64 .f32) (ha23 : a23.IsWhole) (a24 : Memref sig .tc .vmem S1x1 .f32) (ha24 :
    a24.IsWhole) (a25 : Memref sig .tc .vmem S1x1 .f32) (ha25 : a25.IsWhole) (a26 : Memref sig .tc .vmem S1x1 .f32) (ha26 : a26.IsWhole)
    (hst : IsStart i) (hfi : IsFirst i) (hl0 : IsLayer0 i) (hc5 : ¬ k0_cond5 i = 1#1) (hc6 : ¬ k0_cond6 i = 1#1)
    (x0 : Vec F S200x10000 .f32) (x1 : Vec F S200x10000 .f32) (x2 : Vec F S10000x128 .f32) (x3 : Vec F S128x128 .f32) (x4 : Vec F S1x128 .f32) (x5 : Vec F
    S1x128x128 .f32) (x6 : Vec F S1x128x16 .f32) (x7 : Vec F S128x32 .f32) (x8 : Vec F S1x32 .f32) (x9 : Vec F S10000x1 .i32) (x10 : Vec F S10000x1 .f32)
    (o11 : Vec F S400x64 .f32) (o12 : Vec F S400x64 .f32) (o13 : Vec F S400x64 .f32) (o14 : Vec F S400x64 .f32) (o15 : Vec F S400x16 .f32) (o16 : Vec F
    S400x16 .f32) (o17 : Vec F S1x1 .f32) (o18 : Vec F S1x1 .f32) (hc : Vec F S10000x128 .f32) (hn : Vec F S10000x128 .f32) (cm : Vec F S16x64 .f32) (cnt
    : Vec F S16x64 .f32) (sup : Vec F S1x1 .f32) (msk : Vec F S1x1 .f32) (sep : Vec F S1x1 .f32)
    (E : Set ℕ) (K : PUnit → sProp 𝕄) :
    iprop(held c a1 a2 a3 a4 a5 a6 a7 a8 a9 a10 a11 a12 a13 a14 a15 a16 a17 a18 a19 a20 a21 a22 a23 a24 a25 a26 x0 x1 x2 x3 x4 x5 x6 x7 x8 x9 x10 o11 o12 o13 o14 o15 o16 o17 o18 hc hn cm cnt sup msk sep
      ∗ (held c a1 a2 a3 a4 a5 a6 a7 a8 a9 a10 a11 a12 a13 a14 a15 a16 a17 a18 a19 a20 a21 a22 a23 a24 a25 a26
          x0 x1 x2 x3 x4 x5 x6 x7 x8 x9 x10 o11 o12 o13 o14 o15 o16 o17 o18 (k0_pay14 x2 x3 x4) (nxtStep i x0 x1 x5 (k0_pay14 x2 x3 x4) hn) (cmStep i
    x0 x1 x5 x9 (k0_pay14 x2 x3 x4) k0_pay18) (cntStep i x9 k0_pay19) (supStep i x0 x1 x5 x6 x9 x10 (k0_pay14 x2 x3 x4) k0_pay15) (mskStep i x10
    k0_pay16) (k0_pay17 (F := F)) -∗ K ⟨⟩))
      ⊢ wp frame (wpE (defs₀ (F := F)) Variants.none c none) E (cc0__fwd_body i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 a26 ha26) K := by
  simp only [cc0__fwd_body_eq_skeleton]; unfold cc0__fwd_body_skel
  simp only [k0_part2_eq_skeleton, k0_part3_eq_skeleton, k0_part4_eq_skeleton]
  unfold held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩⟩, Hk⟩
  obtain rfl := ha1.eq_unread hf1
  obtain rfl := ha2.eq_unread hf2
  obtain rfl := ha3.eq_unread hf3
  obtain rfl := ha4.eq_unread hf4
  obtain rfl := ha5.eq_unread hf5
  obtain rfl := ha6.eq_unread hf6
  obtain rfl := ha7.eq_unread hf7
  obtain rfl := ha8.eq_unread hf8
  obtain rfl := ha9.eq_unread hf9
  obtain rfl := ha10.eq_unread hf10
  obtain rfl := ha11.eq_unread hf11
  obtain rfl := ha12.eq_unread hf12
  obtain rfl := ha13.eq_unread hf13
  obtain rfl := ha14.eq_unread hf14
  obtain rfl := ha15.eq_unread hf15
  obtain rfl := ha16.eq_unread hf16
  obtain rfl := ha17.eq_unread hf17
  obtain rfl := ha18.eq_unread hf18
  obtain rfl := ha19.eq_unread hf19
  obtain rfl := ha20.eq_unread hf20
  obtain rfl := ha21.eq_unread hf21
  obtain rfl := ha22.eq_unread hf22
  obtain rfl := ha23.eq_unread hf23
  obtain rfl := ha24.eq_unread hf24
  obtain rfl := ha25.eq_unread hf25
  obtain rfl := ha26.eq_unread hf26
  sl_exec (disch := first | sl_exact hst | sl_exact hfi | sl_exact hl0 | sl_exact hc5 | sl_exact hc6)
  sl_step
  iapply Hk
  isplitl [H1]
  · iexists _; isplitr; · ipureintro; exact ha1.read_unread _
    iexact H1
  isplitl [H2]
  · iexists _; isplitr; · ipureintro; exact ha2.read_unread _
    iexact H2
  isplitl [H3]
  · iexists _; isplitr; · ipureintro; exact ha3.read_unread _
    iexact H3
  isplitl [H4]
  · iexists _; isplitr; · ipureintro; exact ha4.read_unread _
    iexact H4
  isplitl [H5]
  · iexists _; isplitr; · ipureintro; exact ha5.read_unread _
    iexact H5
  isplitl [H6]
  · iexists _; isplitr; · ipureintro; exact ha6.read_unread _
    iexact H6
  isplitl [H7]
  · iexists _; isplitr; · ipureintro; exact ha7.read_unread _
    iexact H7
  isplitl [H8]
  · iexists _; isplitr; · ipureintro; exact ha8.read_unread _
    iexact H8
  isplitl [H9]
  · iexists _; isplitr; · ipureintro; exact ha9.read_unread _
    iexact H9
  isplitl [H10]
  · iexists _; isplitr; · ipureintro; exact ha10.read_unread _
    iexact H10
  isplitl [H11]
  · iexists _; isplitr; · ipureintro; exact ha11.read_unread _
    iexact H11
  isplitl [H12]
  · iexists _; isplitr; · ipureintro; exact ha12.read_unread _
    iexact H12
  isplitl [H13]
  · iexists _; isplitr; · ipureintro; exact ha13.read_unread _
    iexact H13
  isplitl [H14]
  · iexists _; isplitr; · ipureintro; exact ha14.read_unread _
    iexact H14
  isplitl [H15]
  · iexists _; isplitr; · ipureintro; exact ha15.read_unread _
    iexact H15
  isplitl [H16]
  · iexists _; isplitr; · ipureintro; exact ha16.read_unread _
    iexact H16
  isplitl [H17]
  · iexists _; isplitr; · ipureintro; exact ha17.read_unread _
    iexact H17
  isplitl [H18]
  · iexists _; isplitr; · ipureintro; exact ha18.read_unread _
    iexact H18
  isplitl [H19]
  · iexists _; isplitr; · ipureintro; exact ha19.read_unread _
    iexact H19
  isplitl [H20]
  · iexists _; isplitr; swap; · iexact H20
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H21]
  · iexists _; isplitr; swap; · iexact H21
    ipureintro; sl_unfold_run_names; (refine (View.read_writes_cons_put _ _ _ _ _ rfl).trans ?_); simp (disch := decide) only [View.writes_nil, View.readAt_eq_ld, View.readAt_writes_full, View.ld_unit_lit', View.readCov_unit_lit', View.readCov_cons_unit_lit', Memref.IsWhole.read_unread]
  isplitl [H22]
  · iexists _; isplitr; swap; · iexact H22
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H23]
  · iexists _; isplitr; swap; · iexact H23
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H24]
  · iexists _; isplitr; swap; · iexact H24
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H25]
  · iexists _; isplitr; swap; · iexact H25
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  iexists _; isplitr; swap; · iexact H26
  ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])

set_option maxHeartbeats 3200000 in
/-- At a point inside layer 0. -/
theorem run_mid0 (c : Dev nD) (i : grid0.Coords) (a1 : Memref sig .tc .vmem S200x10000 .f32) (ha1 : a1.IsWhole) (a2 : Memref sig .tc .vmem S200x10000 .f32) (ha2 : a2.IsWhole) (a3 : Memref sig .tc
    .vmem S10000x128 .f32) (ha3 : a3.IsWhole) (a4 : Memref sig .tc .vmem S128x128 .f32) (ha4 : a4.IsWhole) (a5 : Memref sig .tc .vmem S1x128 .f32) (ha5 :
    a5.IsWhole) (a6 : Memref sig .tc .vmem S1x128x128 .f32) (ha6 : a6.IsWhole) (a7 : Memref sig .tc .vmem S1x128x16 .f32) (ha7 : a7.IsWhole) (a8 : Memref
    sig .tc .vmem S128x32 .f32) (ha8 : a8.IsWhole) (a9 : Memref sig .tc .vmem S1x32 .f32) (ha9 : a9.IsWhole) (a10 : Memref sig .tc .vmem S10000x1 .i32)
    (ha10 : a10.IsWhole) (a11 : Memref sig .tc .vmem S10000x1 .f32) (ha11 : a11.IsWhole) (a12 : Memref sig .tc .vmem S400x64 .f32) (ha12 : a12.IsWhole)
    (a13 : Memref sig .tc .vmem S400x64 .f32) (ha13 : a13.IsWhole) (a14 : Memref sig .tc .vmem S400x64 .f32) (ha14 : a14.IsWhole) (a15 : Memref sig .tc
    .vmem S400x64 .f32) (ha15 : a15.IsWhole) (a16 : Memref sig .tc .vmem S400x16 .f32) (ha16 : a16.IsWhole) (a17 : Memref sig .tc .vmem S400x16 .f32)
    (ha17 : a17.IsWhole) (a18 : Memref sig .tc .vmem S1x1 .f32) (ha18 : a18.IsWhole) (a19 : Memref sig .tc .vmem S1x1 .f32) (ha19 : a19.IsWhole) (a20 :
    Memref sig .tc .vmem S10000x128 .f32) (ha20 : a20.IsWhole) (a21 : Memref sig .tc .vmem S10000x128 .f32) (ha21 : a21.IsWhole) (a22 : Memref sig .tc
    .vmem S16x64 .f32) (ha22 : a22.IsWhole) (a23 : Memref sig .tc .vmem S16x64 .f32) (ha23 : a23.IsWhole) (a24 : Memref sig .tc .vmem S1x1 .f32) (ha24 :
    a24.IsWhole) (a25 : Memref sig .tc .vmem S1x1 .f32) (ha25 : a25.IsWhole) (a26 : Memref sig .tc .vmem S1x1 .f32) (ha26 : a26.IsWhole)
    (hst : ¬ IsStart i) (hfi : ¬ IsFirst i) (hl0 : IsLayer0 i) (hc5 : ¬ k0_cond5 i = 1#1) (hc6 : ¬ k0_cond6 i = 1#1)
    (x0 : Vec F S200x10000 .f32) (x1 : Vec F S200x10000 .f32) (x2 : Vec F S10000x128 .f32) (x3 : Vec F S128x128 .f32) (x4 : Vec F S1x128 .f32) (x5 : Vec F
    S1x128x128 .f32) (x6 : Vec F S1x128x16 .f32) (x7 : Vec F S128x32 .f32) (x8 : Vec F S1x32 .f32) (x9 : Vec F S10000x1 .i32) (x10 : Vec F S10000x1 .f32)
    (o11 : Vec F S400x64 .f32) (o12 : Vec F S400x64 .f32) (o13 : Vec F S400x64 .f32) (o14 : Vec F S400x64 .f32) (o15 : Vec F S400x16 .f32) (o16 : Vec F
    S400x16 .f32) (o17 : Vec F S1x1 .f32) (o18 : Vec F S1x1 .f32) (hc : Vec F S10000x128 .f32) (hn : Vec F S10000x128 .f32) (cm : Vec F S16x64 .f32) (cnt
    : Vec F S16x64 .f32) (sup : Vec F S1x1 .f32) (msk : Vec F S1x1 .f32) (sep : Vec F S1x1 .f32)
    (E : Set ℕ) (K : PUnit → sProp 𝕄) :
    iprop(held c a1 a2 a3 a4 a5 a6 a7 a8 a9 a10 a11 a12 a13 a14 a15 a16 a17 a18 a19 a20 a21 a22 a23 a24 a25 a26 x0 x1 x2 x3 x4 x5 x6 x7 x8 x9 x10 o11 o12 o13 o14 o15 o16 o17 o18 hc hn cm cnt sup msk sep
      ∗ (held c a1 a2 a3 a4 a5 a6 a7 a8 a9 a10 a11 a12 a13 a14 a15 a16 a17 a18 a19 a20 a21 a22 a23 a24 a25 a26
          x0 x1 x2 x3 x4 x5 x6 x7 x8 x9 x10 o11 o12 o13 o14 o15 o16 o17 o18 hc (nxtStep i x0 x1 x5 hc hn) (cmStep i x0 x1 x5 x9 hc cm) (cntStep i x9
    cnt) (supStep i x0 x1 x5 x6 x9 x10 hc sup) (mskStep i x10 msk) sep -∗ K ⟨⟩))
      ⊢ wp frame (wpE (defs₀ (F := F)) Variants.none c none) E (cc0__fwd_body i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 a26 ha26) K := by
  simp only [cc0__fwd_body_eq_skeleton]; unfold cc0__fwd_body_skel
  simp only [k0_part2_eq_skeleton, k0_part3_eq_skeleton, k0_part4_eq_skeleton]
  unfold held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩⟩, Hk⟩
  obtain rfl := ha1.eq_unread hf1
  obtain rfl := ha2.eq_unread hf2
  obtain rfl := ha3.eq_unread hf3
  obtain rfl := ha4.eq_unread hf4
  obtain rfl := ha5.eq_unread hf5
  obtain rfl := ha6.eq_unread hf6
  obtain rfl := ha7.eq_unread hf7
  obtain rfl := ha8.eq_unread hf8
  obtain rfl := ha9.eq_unread hf9
  obtain rfl := ha10.eq_unread hf10
  obtain rfl := ha11.eq_unread hf11
  obtain rfl := ha12.eq_unread hf12
  obtain rfl := ha13.eq_unread hf13
  obtain rfl := ha14.eq_unread hf14
  obtain rfl := ha15.eq_unread hf15
  obtain rfl := ha16.eq_unread hf16
  obtain rfl := ha17.eq_unread hf17
  obtain rfl := ha18.eq_unread hf18
  obtain rfl := ha19.eq_unread hf19
  obtain rfl := ha20.eq_unread hf20
  obtain rfl := ha21.eq_unread hf21
  obtain rfl := ha22.eq_unread hf22
  obtain rfl := ha23.eq_unread hf23
  obtain rfl := ha24.eq_unread hf24
  obtain rfl := ha25.eq_unread hf25
  obtain rfl := ha26.eq_unread hf26
  sl_exec (disch := first | sl_exact hst | sl_exact hfi | sl_exact hl0 | sl_exact hc5 | sl_exact hc6)
  sl_step
  iapply Hk
  isplitl [H1]
  · iexists _; isplitr; · ipureintro; exact ha1.read_unread _
    iexact H1
  isplitl [H2]
  · iexists _; isplitr; · ipureintro; exact ha2.read_unread _
    iexact H2
  isplitl [H3]
  · iexists _; isplitr; · ipureintro; exact ha3.read_unread _
    iexact H3
  isplitl [H4]
  · iexists _; isplitr; · ipureintro; exact ha4.read_unread _
    iexact H4
  isplitl [H5]
  · iexists _; isplitr; · ipureintro; exact ha5.read_unread _
    iexact H5
  isplitl [H6]
  · iexists _; isplitr; · ipureintro; exact ha6.read_unread _
    iexact H6
  isplitl [H7]
  · iexists _; isplitr; · ipureintro; exact ha7.read_unread _
    iexact H7
  isplitl [H8]
  · iexists _; isplitr; · ipureintro; exact ha8.read_unread _
    iexact H8
  isplitl [H9]
  · iexists _; isplitr; · ipureintro; exact ha9.read_unread _
    iexact H9
  isplitl [H10]
  · iexists _; isplitr; · ipureintro; exact ha10.read_unread _
    iexact H10
  isplitl [H11]
  · iexists _; isplitr; · ipureintro; exact ha11.read_unread _
    iexact H11
  isplitl [H12]
  · iexists _; isplitr; · ipureintro; exact ha12.read_unread _
    iexact H12
  isplitl [H13]
  · iexists _; isplitr; · ipureintro; exact ha13.read_unread _
    iexact H13
  isplitl [H14]
  · iexists _; isplitr; · ipureintro; exact ha14.read_unread _
    iexact H14
  isplitl [H15]
  · iexists _; isplitr; · ipureintro; exact ha15.read_unread _
    iexact H15
  isplitl [H16]
  · iexists _; isplitr; · ipureintro; exact ha16.read_unread _
    iexact H16
  isplitl [H17]
  · iexists _; isplitr; · ipureintro; exact ha17.read_unread _
    iexact H17
  isplitl [H18]
  · iexists _; isplitr; · ipureintro; exact ha18.read_unread _
    iexact H18
  isplitl [H19]
  · iexists _; isplitr; · ipureintro; exact ha19.read_unread _
    iexact H19
  isplitl [H20]
  · iexists _; isplitr; · ipureintro; exact ha20.read_unread _
    iexact H20
  isplitl [H21]
  · iexists _; isplitr; swap; · iexact H21
    ipureintro; sl_unfold_run_names; (refine (View.read_writes_cons_put _ _ _ _ _ rfl).trans ?_); simp (disch := decide) only [View.writes_nil, View.readAt_eq_ld, View.readAt_writes_full, View.ld_unit_lit', View.readCov_unit_lit', View.readCov_cons_unit_lit', Memref.IsWhole.read_unread]
  isplitl [H22]
  · iexists _; isplitr; swap; · iexact H22
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H23]
  · iexists _; isplitr; swap; · iexact H23
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H24]
  · iexists _; isplitr; swap; · iexact H24
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H25]
  · iexists _; isplitr; swap; · iexact H25
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  iexists _; isplitr; · ipureintro; exact ha26.read_unread _
  iexact H26

set_option maxHeartbeats 3200000 in
/-- At the last point of layer 0. -/
theorem run_end0 (c : Dev nD) (i : grid0.Coords) (a1 : Memref sig .tc .vmem S200x10000 .f32) (ha1 : a1.IsWhole) (a2 : Memref sig .tc .vmem S200x10000 .f32) (ha2 : a2.IsWhole) (a3 : Memref sig .tc
    .vmem S10000x128 .f32) (ha3 : a3.IsWhole) (a4 : Memref sig .tc .vmem S128x128 .f32) (ha4 : a4.IsWhole) (a5 : Memref sig .tc .vmem S1x128 .f32) (ha5 :
    a5.IsWhole) (a6 : Memref sig .tc .vmem S1x128x128 .f32) (ha6 : a6.IsWhole) (a7 : Memref sig .tc .vmem S1x128x16 .f32) (ha7 : a7.IsWhole) (a8 : Memref
    sig .tc .vmem S128x32 .f32) (ha8 : a8.IsWhole) (a9 : Memref sig .tc .vmem S1x32 .f32) (ha9 : a9.IsWhole) (a10 : Memref sig .tc .vmem S10000x1 .i32)
    (ha10 : a10.IsWhole) (a11 : Memref sig .tc .vmem S10000x1 .f32) (ha11 : a11.IsWhole) (a12 : Memref sig .tc .vmem S400x64 .f32) (ha12 : a12.IsWhole)
    (a13 : Memref sig .tc .vmem S400x64 .f32) (ha13 : a13.IsWhole) (a14 : Memref sig .tc .vmem S400x64 .f32) (ha14 : a14.IsWhole) (a15 : Memref sig .tc
    .vmem S400x64 .f32) (ha15 : a15.IsWhole) (a16 : Memref sig .tc .vmem S400x16 .f32) (ha16 : a16.IsWhole) (a17 : Memref sig .tc .vmem S400x16 .f32)
    (ha17 : a17.IsWhole) (a18 : Memref sig .tc .vmem S1x1 .f32) (ha18 : a18.IsWhole) (a19 : Memref sig .tc .vmem S1x1 .f32) (ha19 : a19.IsWhole) (a20 :
    Memref sig .tc .vmem S10000x128 .f32) (ha20 : a20.IsWhole) (a21 : Memref sig .tc .vmem S10000x128 .f32) (ha21 : a21.IsWhole) (a22 : Memref sig .tc
    .vmem S16x64 .f32) (ha22 : a22.IsWhole) (a23 : Memref sig .tc .vmem S16x64 .f32) (ha23 : a23.IsWhole) (a24 : Memref sig .tc .vmem S1x1 .f32) (ha24 :
    a24.IsWhole) (a25 : Memref sig .tc .vmem S1x1 .f32) (ha25 : a25.IsWhole) (a26 : Memref sig .tc .vmem S1x1 .f32) (ha26 : a26.IsWhole)
    (hst : ¬ IsStart i) (hfi : ¬ IsFirst i) (hl0 : IsLayer0 i) (hc5 : ¬ k0_cond5 i = 1#1) (hc6 : k0_cond6 i = 1#1) (hinn : IsInner i) (hc8 : ¬ k0_cond8 i = 1#1)
    (x0 : Vec F S200x10000 .f32) (x1 : Vec F S200x10000 .f32) (x2 : Vec F S10000x128 .f32) (x3 : Vec F S128x128 .f32) (x4 : Vec F S1x128 .f32) (x5 : Vec F
    S1x128x128 .f32) (x6 : Vec F S1x128x16 .f32) (x7 : Vec F S128x32 .f32) (x8 : Vec F S1x32 .f32) (x9 : Vec F S10000x1 .i32) (x10 : Vec F S10000x1 .f32)
    (o11 : Vec F S400x64 .f32) (o12 : Vec F S400x64 .f32) (o13 : Vec F S400x64 .f32) (o14 : Vec F S400x64 .f32) (o15 : Vec F S400x16 .f32) (o16 : Vec F
    S400x16 .f32) (o17 : Vec F S1x1 .f32) (o18 : Vec F S1x1 .f32) (hc : Vec F S10000x128 .f32) (hn : Vec F S10000x128 .f32) (cm : Vec F S16x64 .f32) (cnt
    : Vec F S16x64 .f32) (sup : Vec F S1x1 .f32) (msk : Vec F S1x1 .f32) (sep : Vec F S1x1 .f32)
    (E : Set ℕ) (K : PUnit → sProp 𝕄) :
    iprop(held c a1 a2 a3 a4 a5 a6 a7 a8 a9 a10 a11 a12 a13 a14 a15 a16 a17 a18 a19 a20 a21 a22 a23 a24 a25 a26 x0 x1 x2 x3 x4 x5 x6 x7 x8 x9 x10 o11 o12 o13 o14 o15 o16 o17 o18 hc hn cm cnt sup msk sep
      ∗ (held c a1 a2 a3 a4 a5 a6 a7 a8 a9 a10 a11 a12 a13 a14 a15 a16 a17 a18 a19 a20 a21 a22 a23 a24 a25 a26
          x0 x1 x2 x3 x4 x5 x6 x7 x8 x9 x10 o11 o12 o13 o14 o15 o16 o17 o18 (k0_pay7 (nxtStep i x0 x1 x5 hc hn)) (nxtStep i x0 x1 x5 hc hn) (cmStep i
    x0 x1 x5 x9 hc cm) (cntStep i x9 cnt) (supStep i x0 x1 x5 x6 x9 x10 hc sup) (mskStep i x10 msk) (k0_pay6 (cmStep i x0 x1 x5 x9 hc cm)
    (cntStep i x9 cnt) sep) -∗ K ⟨⟩))
      ⊢ wp frame (wpE (defs₀ (F := F)) Variants.none c none) E (cc0__fwd_body i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 a26 ha26) K := by
  simp only [cc0__fwd_body_eq_skeleton]; unfold cc0__fwd_body_skel
  simp only [k0_part2_eq_skeleton, k0_part3_eq_skeleton, k0_part4_eq_skeleton]
  unfold held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩⟩, Hk⟩
  obtain rfl := ha1.eq_unread hf1
  obtain rfl := ha2.eq_unread hf2
  obtain rfl := ha3.eq_unread hf3
  obtain rfl := ha4.eq_unread hf4
  obtain rfl := ha5.eq_unread hf5
  obtain rfl := ha6.eq_unread hf6
  obtain rfl := ha7.eq_unread hf7
  obtain rfl := ha8.eq_unread hf8
  obtain rfl := ha9.eq_unread hf9
  obtain rfl := ha10.eq_unread hf10
  obtain rfl := ha11.eq_unread hf11
  obtain rfl := ha12.eq_unread hf12
  obtain rfl := ha13.eq_unread hf13
  obtain rfl := ha14.eq_unread hf14
  obtain rfl := ha15.eq_unread hf15
  obtain rfl := ha16.eq_unread hf16
  obtain rfl := ha17.eq_unread hf17
  obtain rfl := ha18.eq_unread hf18
  obtain rfl := ha19.eq_unread hf19
  obtain rfl := ha20.eq_unread hf20
  obtain rfl := ha21.eq_unread hf21
  obtain rfl := ha22.eq_unread hf22
  obtain rfl := ha23.eq_unread hf23
  obtain rfl := ha24.eq_unread hf24
  obtain rfl := ha25.eq_unread hf25
  obtain rfl := ha26.eq_unread hf26
  sl_exec (disch := first | sl_exact hst | sl_exact hfi | sl_exact hl0 | sl_exact hc5 | sl_exact hc6 | sl_exact hinn | sl_exact hc8)
  sl_step
  iapply Hk
  isplitl [H1]
  · iexists _; isplitr; · ipureintro; exact ha1.read_unread _
    iexact H1
  isplitl [H2]
  · iexists _; isplitr; · ipureintro; exact ha2.read_unread _
    iexact H2
  isplitl [H3]
  · iexists _; isplitr; · ipureintro; exact ha3.read_unread _
    iexact H3
  isplitl [H4]
  · iexists _; isplitr; · ipureintro; exact ha4.read_unread _
    iexact H4
  isplitl [H5]
  · iexists _; isplitr; · ipureintro; exact ha5.read_unread _
    iexact H5
  isplitl [H6]
  · iexists _; isplitr; · ipureintro; exact ha6.read_unread _
    iexact H6
  isplitl [H7]
  · iexists _; isplitr; · ipureintro; exact ha7.read_unread _
    iexact H7
  isplitl [H8]
  · iexists _; isplitr; · ipureintro; exact ha8.read_unread _
    iexact H8
  isplitl [H9]
  · iexists _; isplitr; · ipureintro; exact ha9.read_unread _
    iexact H9
  isplitl [H10]
  · iexists _; isplitr; · ipureintro; exact ha10.read_unread _
    iexact H10
  isplitl [H11]
  · iexists _; isplitr; · ipureintro; exact ha11.read_unread _
    iexact H11
  isplitl [H12]
  · iexists _; isplitr; · ipureintro; exact ha12.read_unread _
    iexact H12
  isplitl [H13]
  · iexists _; isplitr; · ipureintro; exact ha13.read_unread _
    iexact H13
  isplitl [H14]
  · iexists _; isplitr; · ipureintro; exact ha14.read_unread _
    iexact H14
  isplitl [H15]
  · iexists _; isplitr; · ipureintro; exact ha15.read_unread _
    iexact H15
  isplitl [H16]
  · iexists _; isplitr; · ipureintro; exact ha16.read_unread _
    iexact H16
  isplitl [H17]
  · iexists _; isplitr; · ipureintro; exact ha17.read_unread _
    iexact H17
  isplitl [H18]
  · iexists _; isplitr; · ipureintro; exact ha18.read_unread _
    iexact H18
  isplitl [H19]
  · iexists _; isplitr; · ipureintro; exact ha19.read_unread _
    iexact H19
  isplitl [H20]
  · iexists _; isplitr; swap; · iexact H20
    ipureintro; sl_unfold_run_names; (refine (View.read_writes_full _ _ _ _ _).trans ?_); (simp (disch := decide) only [View.readAt_full, View.readAt_eq_ld, View.readAt_writes_full, View.ld_unit_lit', View.readCov_unit_lit', View.readCov_cons_unit_lit', Memref.IsWhole.read_unread]); exact congrArg k0_pay7 ((View.read_writes_cons_put _ _ _ _ _ rfl).trans (by rw [View.writes_nil, ha21.read_unread]))
  isplitl [H21]
  · iexists _; isplitr; swap; · iexact H21
    ipureintro; sl_unfold_run_names; (refine (View.read_writes_cons_put _ _ _ _ _ rfl).trans ?_); simp (disch := decide) only [View.writes_nil, View.readAt_eq_ld, View.readAt_writes_full, View.ld_unit_lit', View.readCov_unit_lit', View.readCov_cons_unit_lit', Memref.IsWhole.read_unread]
  isplitl [H22]
  · iexists _; isplitr; swap; · iexact H22
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H23]
  · iexists _; isplitr; swap; · iexact H23
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H24]
  · iexists _; isplitr; swap; · iexact H24
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H25]
  · iexists _; isplitr; swap; · iexact H25
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  iexists _; isplitr; swap; · iexact H26
  ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])

set_option maxHeartbeats 3200000 in
/-- At the first point of layer 1. -/
theorem run_start1 (c : Dev nD) (i : grid0.Coords) (a1 : Memref sig .tc .vmem S200x10000 .f32) (ha1 : a1.IsWhole) (a2 : Memref sig .tc .vmem S200x10000 .f32) (ha2 : a2.IsWhole) (a3 : Memref sig .tc
    .vmem S10000x128 .f32) (ha3 : a3.IsWhole) (a4 : Memref sig .tc .vmem S128x128 .f32) (ha4 : a4.IsWhole) (a5 : Memref sig .tc .vmem S1x128 .f32) (ha5 :
    a5.IsWhole) (a6 : Memref sig .tc .vmem S1x128x128 .f32) (ha6 : a6.IsWhole) (a7 : Memref sig .tc .vmem S1x128x16 .f32) (ha7 : a7.IsWhole) (a8 : Memref
    sig .tc .vmem S128x32 .f32) (ha8 : a8.IsWhole) (a9 : Memref sig .tc .vmem S1x32 .f32) (ha9 : a9.IsWhole) (a10 : Memref sig .tc .vmem S10000x1 .i32)
    (ha10 : a10.IsWhole) (a11 : Memref sig .tc .vmem S10000x1 .f32) (ha11 : a11.IsWhole) (a12 : Memref sig .tc .vmem S400x64 .f32) (ha12 : a12.IsWhole)
    (a13 : Memref sig .tc .vmem S400x64 .f32) (ha13 : a13.IsWhole) (a14 : Memref sig .tc .vmem S400x64 .f32) (ha14 : a14.IsWhole) (a15 : Memref sig .tc
    .vmem S400x64 .f32) (ha15 : a15.IsWhole) (a16 : Memref sig .tc .vmem S400x16 .f32) (ha16 : a16.IsWhole) (a17 : Memref sig .tc .vmem S400x16 .f32)
    (ha17 : a17.IsWhole) (a18 : Memref sig .tc .vmem S1x1 .f32) (ha18 : a18.IsWhole) (a19 : Memref sig .tc .vmem S1x1 .f32) (ha19 : a19.IsWhole) (a20 :
    Memref sig .tc .vmem S10000x128 .f32) (ha20 : a20.IsWhole) (a21 : Memref sig .tc .vmem S10000x128 .f32) (ha21 : a21.IsWhole) (a22 : Memref sig .tc
    .vmem S16x64 .f32) (ha22 : a22.IsWhole) (a23 : Memref sig .tc .vmem S16x64 .f32) (ha23 : a23.IsWhole) (a24 : Memref sig .tc .vmem S1x1 .f32) (ha24 :
    a24.IsWhole) (a25 : Memref sig .tc .vmem S1x1 .f32) (ha25 : a25.IsWhole) (a26 : Memref sig .tc .vmem S1x1 .f32) (ha26 : a26.IsWhole)
    (hst : ¬ IsStart i) (hfi : IsFirst i) (hl0 : ¬ IsLayer0 i) (hc5 : k0_cond5 i = 1#1) (hc6 : ¬ k0_cond6 i = 1#1)
    (x0 : Vec F S200x10000 .f32) (x1 : Vec F S200x10000 .f32) (x2 : Vec F S10000x128 .f32) (x3 : Vec F S128x128 .f32) (x4 : Vec F S1x128 .f32) (x5 : Vec F
    S1x128x128 .f32) (x6 : Vec F S1x128x16 .f32) (x7 : Vec F S128x32 .f32) (x8 : Vec F S1x32 .f32) (x9 : Vec F S10000x1 .i32) (x10 : Vec F S10000x1 .f32)
    (o11 : Vec F S400x64 .f32) (o12 : Vec F S400x64 .f32) (o13 : Vec F S400x64 .f32) (o14 : Vec F S400x64 .f32) (o15 : Vec F S400x16 .f32) (o16 : Vec F
    S400x16 .f32) (o17 : Vec F S1x1 .f32) (o18 : Vec F S1x1 .f32) (hc : Vec F S10000x128 .f32) (hn : Vec F S10000x128 .f32) (cm : Vec F S16x64 .f32) (cnt
    : Vec F S16x64 .f32) (sup : Vec F S1x1 .f32) (msk : Vec F S1x1 .f32) (sep : Vec F S1x1 .f32)
    (E : Set ℕ) (K : PUnit → sProp 𝕄) :
    iprop(held c a1 a2 a3 a4 a5 a6 a7 a8 a9 a10 a11 a12 a13 a14 a15 a16 a17 a18 a19 a20 a21 a22 a23 a24 a25 a26 x0 x1 x2 x3 x4 x5 x6 x7 x8 x9 x10 o11 o12 o13 o14 o15 o16 o17 o18 hc hn cm cnt sup msk sep
      ∗ (held c a1 a2 a3 a4 a5 a6 a7 a8 a9 a10 a11 a12 a13 a14 a15 a16 a17 a18 a19 a20 a21 a22 a23 a24 a25 a26
          x0 x1 x2 x3 x4 x5 x6 x7 x8 x9 x10 (k0_pay9 (k0_pay21 x0 hc x1 hc x5)) (k0_pay10 (k0_pay22 x0 hc x1 hc x5)) (k0_pay11 (k0_pay21 x0 hc x1 hc
    x5) (k0_pay22 x0 hc x1 hc x5)) (k0_pay12 (k0_pay21 x0 hc x1 hc x5) (k0_pay22 x0 hc x1 hc x5)) (k0_pay4 (k0_pay13 (k0_pay20 x0 hc x1 hc x5)
    x7 x8)) (k0_pay5 (k0_pay13 (k0_pay20 x0 hc x1 hc x5) x7 x8)) o17 o18 hc (nxtStep i x0 x1 x5 hc hn) (cmStep i x0 x1 x5 x9 hc k0_pay18) cnt
    (supStep i x0 x1 x5 x6 x9 x10 hc sup) (mskStep i x10 msk) sep -∗ K ⟨⟩))
      ⊢ wp frame (wpE (defs₀ (F := F)) Variants.none c none) E (cc0__fwd_body i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 a26 ha26) K := by
  simp only [cc0__fwd_body_eq_skeleton]; unfold cc0__fwd_body_skel
  simp only [k0_part1_eq_skeleton, k0_part2_eq_skeleton, k0_part3_eq_skeleton, k0_part4_eq_skeleton]
  unfold held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩⟩, Hk⟩
  obtain rfl := ha1.eq_unread hf1
  obtain rfl := ha2.eq_unread hf2
  obtain rfl := ha3.eq_unread hf3
  obtain rfl := ha4.eq_unread hf4
  obtain rfl := ha5.eq_unread hf5
  obtain rfl := ha6.eq_unread hf6
  obtain rfl := ha7.eq_unread hf7
  obtain rfl := ha8.eq_unread hf8
  obtain rfl := ha9.eq_unread hf9
  obtain rfl := ha10.eq_unread hf10
  obtain rfl := ha11.eq_unread hf11
  obtain rfl := ha12.eq_unread hf12
  obtain rfl := ha13.eq_unread hf13
  obtain rfl := ha14.eq_unread hf14
  obtain rfl := ha15.eq_unread hf15
  obtain rfl := ha16.eq_unread hf16
  obtain rfl := ha17.eq_unread hf17
  obtain rfl := ha18.eq_unread hf18
  obtain rfl := ha19.eq_unread hf19
  obtain rfl := ha20.eq_unread hf20
  obtain rfl := ha21.eq_unread hf21
  obtain rfl := ha22.eq_unread hf22
  obtain rfl := ha23.eq_unread hf23
  obtain rfl := ha24.eq_unread hf24
  obtain rfl := ha25.eq_unread hf25
  obtain rfl := ha26.eq_unread hf26
  sl_exec (disch := first | sl_exact hst | sl_exact hfi | sl_exact hl0 | sl_exact hc5 | sl_exact hc6)
  sl_step
  iapply Hk
  isplitl [H1]
  · iexists _; isplitr; · ipureintro; exact ha1.read_unread _
    iexact H1
  isplitl [H2]
  · iexists _; isplitr; · ipureintro; exact ha2.read_unread _
    iexact H2
  isplitl [H3]
  · iexists _; isplitr; · ipureintro; exact ha3.read_unread _
    iexact H3
  isplitl [H4]
  · iexists _; isplitr; · ipureintro; exact ha4.read_unread _
    iexact H4
  isplitl [H5]
  · iexists _; isplitr; · ipureintro; exact ha5.read_unread _
    iexact H5
  isplitl [H6]
  · iexists _; isplitr; · ipureintro; exact ha6.read_unread _
    iexact H6
  isplitl [H7]
  · iexists _; isplitr; · ipureintro; exact ha7.read_unread _
    iexact H7
  isplitl [H8]
  · iexists _; isplitr; · ipureintro; exact ha8.read_unread _
    iexact H8
  isplitl [H9]
  · iexists _; isplitr; · ipureintro; exact ha9.read_unread _
    iexact H9
  isplitl [H10]
  · iexists _; isplitr; · ipureintro; exact ha10.read_unread _
    iexact H10
  isplitl [H11]
  · iexists _; isplitr; · ipureintro; exact ha11.read_unread _
    iexact H11
  isplitl [H12]
  · iexists _; isplitr; swap; · iexact H12
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H13]
  · iexists _; isplitr; swap; · iexact H13
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H14]
  · iexists _; isplitr; swap; · iexact H14
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H15]
  · iexists _; isplitr; swap; · iexact H15
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H16]
  · iexists _; isplitr; swap; · iexact H16
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H17]
  · iexists _; isplitr; swap; · iexact H17
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H18]
  · iexists _; isplitr; · ipureintro; exact ha18.read_unread _
    iexact H18
  isplitl [H19]
  · iexists _; isplitr; · ipureintro; exact ha19.read_unread _
    iexact H19
  isplitl [H20]
  · iexists _; isplitr; · ipureintro; exact ha20.read_unread _
    iexact H20
  isplitl [H21]
  · iexists _; isplitr; swap; · iexact H21
    ipureintro; sl_unfold_run_names; (refine (View.read_writes_cons_put _ _ _ _ _ rfl).trans ?_); simp (disch := decide) only [View.writes_nil, View.readAt_eq_ld, View.readAt_writes_full, View.ld_unit_lit', View.readCov_unit_lit', View.readCov_cons_unit_lit', Memref.IsWhole.read_unread]
  isplitl [H22]
  · iexists _; isplitr; swap; · iexact H22
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H23]
  · iexists _; isplitr; · ipureintro; exact ha23.read_unread _
    iexact H23
  isplitl [H24]
  · iexists _; isplitr; swap; · iexact H24
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H25]
  · iexists _; isplitr; swap; · iexact H25
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  iexists _; isplitr; · ipureintro; exact ha26.read_unread _
  iexact H26

set_option maxHeartbeats 3200000 in
/-- At a point inside layer 1. -/
theorem run_mid1 (c : Dev nD) (i : grid0.Coords) (a1 : Memref sig .tc .vmem S200x10000 .f32) (ha1 : a1.IsWhole) (a2 : Memref sig .tc .vmem S200x10000 .f32) (ha2 : a2.IsWhole) (a3 : Memref sig .tc
    .vmem S10000x128 .f32) (ha3 : a3.IsWhole) (a4 : Memref sig .tc .vmem S128x128 .f32) (ha4 : a4.IsWhole) (a5 : Memref sig .tc .vmem S1x128 .f32) (ha5 :
    a5.IsWhole) (a6 : Memref sig .tc .vmem S1x128x128 .f32) (ha6 : a6.IsWhole) (a7 : Memref sig .tc .vmem S1x128x16 .f32) (ha7 : a7.IsWhole) (a8 : Memref
    sig .tc .vmem S128x32 .f32) (ha8 : a8.IsWhole) (a9 : Memref sig .tc .vmem S1x32 .f32) (ha9 : a9.IsWhole) (a10 : Memref sig .tc .vmem S10000x1 .i32)
    (ha10 : a10.IsWhole) (a11 : Memref sig .tc .vmem S10000x1 .f32) (ha11 : a11.IsWhole) (a12 : Memref sig .tc .vmem S400x64 .f32) (ha12 : a12.IsWhole)
    (a13 : Memref sig .tc .vmem S400x64 .f32) (ha13 : a13.IsWhole) (a14 : Memref sig .tc .vmem S400x64 .f32) (ha14 : a14.IsWhole) (a15 : Memref sig .tc
    .vmem S400x64 .f32) (ha15 : a15.IsWhole) (a16 : Memref sig .tc .vmem S400x16 .f32) (ha16 : a16.IsWhole) (a17 : Memref sig .tc .vmem S400x16 .f32)
    (ha17 : a17.IsWhole) (a18 : Memref sig .tc .vmem S1x1 .f32) (ha18 : a18.IsWhole) (a19 : Memref sig .tc .vmem S1x1 .f32) (ha19 : a19.IsWhole) (a20 :
    Memref sig .tc .vmem S10000x128 .f32) (ha20 : a20.IsWhole) (a21 : Memref sig .tc .vmem S10000x128 .f32) (ha21 : a21.IsWhole) (a22 : Memref sig .tc
    .vmem S16x64 .f32) (ha22 : a22.IsWhole) (a23 : Memref sig .tc .vmem S16x64 .f32) (ha23 : a23.IsWhole) (a24 : Memref sig .tc .vmem S1x1 .f32) (ha24 :
    a24.IsWhole) (a25 : Memref sig .tc .vmem S1x1 .f32) (ha25 : a25.IsWhole) (a26 : Memref sig .tc .vmem S1x1 .f32) (ha26 : a26.IsWhole)
    (hst : ¬ IsStart i) (hfi : ¬ IsFirst i) (hl0 : ¬ IsLayer0 i) (hc5 : k0_cond5 i = 1#1) (hc6 : ¬ k0_cond6 i = 1#1)
    (x0 : Vec F S200x10000 .f32) (x1 : Vec F S200x10000 .f32) (x2 : Vec F S10000x128 .f32) (x3 : Vec F S128x128 .f32) (x4 : Vec F S1x128 .f32) (x5 : Vec F
    S1x128x128 .f32) (x6 : Vec F S1x128x16 .f32) (x7 : Vec F S128x32 .f32) (x8 : Vec F S1x32 .f32) (x9 : Vec F S10000x1 .i32) (x10 : Vec F S10000x1 .f32)
    (o11 : Vec F S400x64 .f32) (o12 : Vec F S400x64 .f32) (o13 : Vec F S400x64 .f32) (o14 : Vec F S400x64 .f32) (o15 : Vec F S400x16 .f32) (o16 : Vec F
    S400x16 .f32) (o17 : Vec F S1x1 .f32) (o18 : Vec F S1x1 .f32) (hc : Vec F S10000x128 .f32) (hn : Vec F S10000x128 .f32) (cm : Vec F S16x64 .f32) (cnt
    : Vec F S16x64 .f32) (sup : Vec F S1x1 .f32) (msk : Vec F S1x1 .f32) (sep : Vec F S1x1 .f32)
    (E : Set ℕ) (K : PUnit → sProp 𝕄) :
    iprop(held c a1 a2 a3 a4 a5 a6 a7 a8 a9 a10 a11 a12 a13 a14 a15 a16 a17 a18 a19 a20 a21 a22 a23 a24 a25 a26 x0 x1 x2 x3 x4 x5 x6 x7 x8 x9 x10 o11 o12 o13 o14 o15 o16 o17 o18 hc hn cm cnt sup msk sep
      ∗ (held c a1 a2 a3 a4 a5 a6 a7 a8 a9 a10 a11 a12 a13 a14 a15 a16 a17 a18 a19 a20 a21 a22 a23 a24 a25 a26
          x0 x1 x2 x3 x4 x5 x6 x7 x8 x9 x10 (k0_pay9 (k0_pay21 x0 hc x1 hc x5)) (k0_pay10 (k0_pay22 x0 hc x1 hc x5)) (k0_pay11 (k0_pay21 x0 hc x1 hc
    x5) (k0_pay22 x0 hc x1 hc x5)) (k0_pay12 (k0_pay21 x0 hc x1 hc x5) (k0_pay22 x0 hc x1 hc x5)) (k0_pay4 (k0_pay13 (k0_pay20 x0 hc x1 hc x5)
    x7 x8)) (k0_pay5 (k0_pay13 (k0_pay20 x0 hc x1 hc x5) x7 x8)) o17 o18 hc (nxtStep i x0 x1 x5 hc hn) (cmStep i x0 x1 x5 x9 hc cm) cnt (supStep
    i x0 x1 x5 x6 x9 x10 hc sup) (mskStep i x10 msk) sep -∗ K ⟨⟩))
      ⊢ wp frame (wpE (defs₀ (F := F)) Variants.none c none) E (cc0__fwd_body i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 a26 ha26) K := by
  simp only [cc0__fwd_body_eq_skeleton]; unfold cc0__fwd_body_skel
  simp only [k0_part1_eq_skeleton, k0_part2_eq_skeleton, k0_part3_eq_skeleton, k0_part4_eq_skeleton]
  unfold held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩⟩, Hk⟩
  obtain rfl := ha1.eq_unread hf1
  obtain rfl := ha2.eq_unread hf2
  obtain rfl := ha3.eq_unread hf3
  obtain rfl := ha4.eq_unread hf4
  obtain rfl := ha5.eq_unread hf5
  obtain rfl := ha6.eq_unread hf6
  obtain rfl := ha7.eq_unread hf7
  obtain rfl := ha8.eq_unread hf8
  obtain rfl := ha9.eq_unread hf9
  obtain rfl := ha10.eq_unread hf10
  obtain rfl := ha11.eq_unread hf11
  obtain rfl := ha12.eq_unread hf12
  obtain rfl := ha13.eq_unread hf13
  obtain rfl := ha14.eq_unread hf14
  obtain rfl := ha15.eq_unread hf15
  obtain rfl := ha16.eq_unread hf16
  obtain rfl := ha17.eq_unread hf17
  obtain rfl := ha18.eq_unread hf18
  obtain rfl := ha19.eq_unread hf19
  obtain rfl := ha20.eq_unread hf20
  obtain rfl := ha21.eq_unread hf21
  obtain rfl := ha22.eq_unread hf22
  obtain rfl := ha23.eq_unread hf23
  obtain rfl := ha24.eq_unread hf24
  obtain rfl := ha25.eq_unread hf25
  obtain rfl := ha26.eq_unread hf26
  sl_exec (disch := first | sl_exact hst | sl_exact hfi | sl_exact hl0 | sl_exact hc5 | sl_exact hc6)
  sl_step
  iapply Hk
  isplitl [H1]
  · iexists _; isplitr; · ipureintro; exact ha1.read_unread _
    iexact H1
  isplitl [H2]
  · iexists _; isplitr; · ipureintro; exact ha2.read_unread _
    iexact H2
  isplitl [H3]
  · iexists _; isplitr; · ipureintro; exact ha3.read_unread _
    iexact H3
  isplitl [H4]
  · iexists _; isplitr; · ipureintro; exact ha4.read_unread _
    iexact H4
  isplitl [H5]
  · iexists _; isplitr; · ipureintro; exact ha5.read_unread _
    iexact H5
  isplitl [H6]
  · iexists _; isplitr; · ipureintro; exact ha6.read_unread _
    iexact H6
  isplitl [H7]
  · iexists _; isplitr; · ipureintro; exact ha7.read_unread _
    iexact H7
  isplitl [H8]
  · iexists _; isplitr; · ipureintro; exact ha8.read_unread _
    iexact H8
  isplitl [H9]
  · iexists _; isplitr; · ipureintro; exact ha9.read_unread _
    iexact H9
  isplitl [H10]
  · iexists _; isplitr; · ipureintro; exact ha10.read_unread _
    iexact H10
  isplitl [H11]
  · iexists _; isplitr; · ipureintro; exact ha11.read_unread _
    iexact H11
  isplitl [H12]
  · iexists _; isplitr; swap; · iexact H12
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H13]
  · iexists _; isplitr; swap; · iexact H13
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H14]
  · iexists _; isplitr; swap; · iexact H14
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H15]
  · iexists _; isplitr; swap; · iexact H15
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H16]
  · iexists _; isplitr; swap; · iexact H16
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H17]
  · iexists _; isplitr; swap; · iexact H17
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H18]
  · iexists _; isplitr; · ipureintro; exact ha18.read_unread _
    iexact H18
  isplitl [H19]
  · iexists _; isplitr; · ipureintro; exact ha19.read_unread _
    iexact H19
  isplitl [H20]
  · iexists _; isplitr; · ipureintro; exact ha20.read_unread _
    iexact H20
  isplitl [H21]
  · iexists _; isplitr; swap; · iexact H21
    ipureintro; sl_unfold_run_names; (refine (View.read_writes_cons_put _ _ _ _ _ rfl).trans ?_); simp (disch := decide) only [View.writes_nil, View.readAt_eq_ld, View.readAt_writes_full, View.ld_unit_lit', View.readCov_unit_lit', View.readCov_cons_unit_lit', Memref.IsWhole.read_unread]
  isplitl [H22]
  · iexists _; isplitr; swap; · iexact H22
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H23]
  · iexists _; isplitr; · ipureintro; exact ha23.read_unread _
    iexact H23
  isplitl [H24]
  · iexists _; isplitr; swap; · iexact H24
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H25]
  · iexists _; isplitr; swap; · iexact H25
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  iexists _; isplitr; · ipureintro; exact ha26.read_unread _
  iexact H26

set_option maxHeartbeats 3200000 in
/-- At the last point of all. -/
theorem run_end1 (c : Dev nD) (i : grid0.Coords) (a1 : Memref sig .tc .vmem S200x10000 .f32) (ha1 : a1.IsWhole) (a2 : Memref sig .tc .vmem S200x10000 .f32) (ha2 : a2.IsWhole) (a3 : Memref sig .tc
    .vmem S10000x128 .f32) (ha3 : a3.IsWhole) (a4 : Memref sig .tc .vmem S128x128 .f32) (ha4 : a4.IsWhole) (a5 : Memref sig .tc .vmem S1x128 .f32) (ha5 :
    a5.IsWhole) (a6 : Memref sig .tc .vmem S1x128x128 .f32) (ha6 : a6.IsWhole) (a7 : Memref sig .tc .vmem S1x128x16 .f32) (ha7 : a7.IsWhole) (a8 : Memref
    sig .tc .vmem S128x32 .f32) (ha8 : a8.IsWhole) (a9 : Memref sig .tc .vmem S1x32 .f32) (ha9 : a9.IsWhole) (a10 : Memref sig .tc .vmem S10000x1 .i32)
    (ha10 : a10.IsWhole) (a11 : Memref sig .tc .vmem S10000x1 .f32) (ha11 : a11.IsWhole) (a12 : Memref sig .tc .vmem S400x64 .f32) (ha12 : a12.IsWhole)
    (a13 : Memref sig .tc .vmem S400x64 .f32) (ha13 : a13.IsWhole) (a14 : Memref sig .tc .vmem S400x64 .f32) (ha14 : a14.IsWhole) (a15 : Memref sig .tc
    .vmem S400x64 .f32) (ha15 : a15.IsWhole) (a16 : Memref sig .tc .vmem S400x16 .f32) (ha16 : a16.IsWhole) (a17 : Memref sig .tc .vmem S400x16 .f32)
    (ha17 : a17.IsWhole) (a18 : Memref sig .tc .vmem S1x1 .f32) (ha18 : a18.IsWhole) (a19 : Memref sig .tc .vmem S1x1 .f32) (ha19 : a19.IsWhole) (a20 :
    Memref sig .tc .vmem S10000x128 .f32) (ha20 : a20.IsWhole) (a21 : Memref sig .tc .vmem S10000x128 .f32) (ha21 : a21.IsWhole) (a22 : Memref sig .tc
    .vmem S16x64 .f32) (ha22 : a22.IsWhole) (a23 : Memref sig .tc .vmem S16x64 .f32) (ha23 : a23.IsWhole) (a24 : Memref sig .tc .vmem S1x1 .f32) (ha24 :
    a24.IsWhole) (a25 : Memref sig .tc .vmem S1x1 .f32) (ha25 : a25.IsWhole) (a26 : Memref sig .tc .vmem S1x1 .f32) (ha26 : a26.IsWhole)
    (hst : ¬ IsStart i) (hfi : ¬ IsFirst i) (hl0 : ¬ IsLayer0 i) (hc5 : k0_cond5 i = 1#1) (hc6 : k0_cond6 i = 1#1) (hinn : ¬ IsInner i) (hc8 : k0_cond8 i = 1#1)
    (x0 : Vec F S200x10000 .f32) (x1 : Vec F S200x10000 .f32) (x2 : Vec F S10000x128 .f32) (x3 : Vec F S128x128 .f32) (x4 : Vec F S1x128 .f32) (x5 : Vec F
    S1x128x128 .f32) (x6 : Vec F S1x128x16 .f32) (x7 : Vec F S128x32 .f32) (x8 : Vec F S1x32 .f32) (x9 : Vec F S10000x1 .i32) (x10 : Vec F S10000x1 .f32)
    (o11 : Vec F S400x64 .f32) (o12 : Vec F S400x64 .f32) (o13 : Vec F S400x64 .f32) (o14 : Vec F S400x64 .f32) (o15 : Vec F S400x16 .f32) (o16 : Vec F
    S400x16 .f32) (o17 : Vec F S1x1 .f32) (o18 : Vec F S1x1 .f32) (hc : Vec F S10000x128 .f32) (hn : Vec F S10000x128 .f32) (cm : Vec F S16x64 .f32) (cnt
    : Vec F S16x64 .f32) (sup : Vec F S1x1 .f32) (msk : Vec F S1x1 .f32) (sep : Vec F S1x1 .f32)
    (E : Set ℕ) (K : PUnit → sProp 𝕄) :
    iprop(held c a1 a2 a3 a4 a5 a6 a7 a8 a9 a10 a11 a12 a13 a14 a15 a16 a17 a18 a19 a20 a21 a22 a23 a24 a25 a26 x0 x1 x2 x3 x4 x5 x6 x7 x8 x9 x10 o11 o12 o13 o14 o15 o16 o17 o18 hc hn cm cnt sup msk sep
      ∗ (held c a1 a2 a3 a4 a5 a6 a7 a8 a9 a10 a11 a12 a13 a14 a15 a16 a17 a18 a19 a20 a21 a22 a23 a24 a25 a26
          x0 x1 x2 x3 x4 x5 x6 x7 x8 x9 x10 (k0_pay9 (k0_pay21 x0 hc x1 hc x5)) (k0_pay10 (k0_pay22 x0 hc x1 hc x5)) (k0_pay11 (k0_pay21 x0 hc x1 hc
    x5) (k0_pay22 x0 hc x1 hc x5)) (k0_pay12 (k0_pay21 x0 hc x1 hc x5) (k0_pay22 x0 hc x1 hc x5)) (k0_pay4 (k0_pay13 (k0_pay20 x0 hc x1 hc x5)
    x7 x8)) (k0_pay5 (k0_pay13 (k0_pay20 x0 hc x1 hc x5) x7 x8)) (k0_pay6 (cmStep i x0 x1 x5 x9 hc cm) cnt sep) (k0_pay8 (supStep i x0 x1 x5 x6
    x9 x10 hc sup) (mskStep i x10 msk)) hc (nxtStep i x0 x1 x5 hc hn) (cmStep i x0 x1 x5 x9 hc cm) cnt (supStep i x0 x1 x5 x6 x9 x10 hc sup)
    (mskStep i x10 msk) (k0_pay6 (cmStep i x0 x1 x5 x9 hc cm) cnt sep) -∗ K ⟨⟩))
      ⊢ wp frame (wpE (defs₀ (F := F)) Variants.none c none) E (cc0__fwd_body i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 a26 ha26) K := by
  simp only [cc0__fwd_body_eq_skeleton]; unfold cc0__fwd_body_skel
  simp only [k0_part1_eq_skeleton, k0_part2_eq_skeleton, k0_part3_eq_skeleton, k0_part4_eq_skeleton]
  unfold held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩⟩, Hk⟩
  obtain rfl := ha1.eq_unread hf1
  obtain rfl := ha2.eq_unread hf2
  obtain rfl := ha3.eq_unread hf3
  obtain rfl := ha4.eq_unread hf4
  obtain rfl := ha5.eq_unread hf5
  obtain rfl := ha6.eq_unread hf6
  obtain rfl := ha7.eq_unread hf7
  obtain rfl := ha8.eq_unread hf8
  obtain rfl := ha9.eq_unread hf9
  obtain rfl := ha10.eq_unread hf10
  obtain rfl := ha11.eq_unread hf11
  obtain rfl := ha12.eq_unread hf12
  obtain rfl := ha13.eq_unread hf13
  obtain rfl := ha14.eq_unread hf14
  obtain rfl := ha15.eq_unread hf15
  obtain rfl := ha16.eq_unread hf16
  obtain rfl := ha17.eq_unread hf17
  obtain rfl := ha18.eq_unread hf18
  obtain rfl := ha19.eq_unread hf19
  obtain rfl := ha20.eq_unread hf20
  obtain rfl := ha21.eq_unread hf21
  obtain rfl := ha22.eq_unread hf22
  obtain rfl := ha23.eq_unread hf23
  obtain rfl := ha24.eq_unread hf24
  obtain rfl := ha25.eq_unread hf25
  obtain rfl := ha26.eq_unread hf26
  sl_exec (disch := first | sl_exact hst | sl_exact hfi | sl_exact hl0 | sl_exact hc5 | sl_exact hc6 | sl_exact hinn | sl_exact hc8)
  sl_step
  iapply Hk
  isplitl [H1]
  · iexists _; isplitr; · ipureintro; exact ha1.read_unread _
    iexact H1
  isplitl [H2]
  · iexists _; isplitr; · ipureintro; exact ha2.read_unread _
    iexact H2
  isplitl [H3]
  · iexists _; isplitr; · ipureintro; exact ha3.read_unread _
    iexact H3
  isplitl [H4]
  · iexists _; isplitr; · ipureintro; exact ha4.read_unread _
    iexact H4
  isplitl [H5]
  · iexists _; isplitr; · ipureintro; exact ha5.read_unread _
    iexact H5
  isplitl [H6]
  · iexists _; isplitr; · ipureintro; exact ha6.read_unread _
    iexact H6
  isplitl [H7]
  · iexists _; isplitr; · ipureintro; exact ha7.read_unread _
    iexact H7
  isplitl [H8]
  · iexists _; isplitr; · ipureintro; exact ha8.read_unread _
    iexact H8
  isplitl [H9]
  · iexists _; isplitr; · ipureintro; exact ha9.read_unread _
    iexact H9
  isplitl [H10]
  · iexists _; isplitr; · ipureintro; exact ha10.read_unread _
    iexact H10
  isplitl [H11]
  · iexists _; isplitr; · ipureintro; exact ha11.read_unread _
    iexact H11
  isplitl [H12]
  · iexists _; isplitr; swap; · iexact H12
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H13]
  · iexists _; isplitr; swap; · iexact H13
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H14]
  · iexists _; isplitr; swap; · iexact H14
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H15]
  · iexists _; isplitr; swap; · iexact H15
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H16]
  · iexists _; isplitr; swap; · iexact H16
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H17]
  · iexists _; isplitr; swap; · iexact H17
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H18]
  · iexists _; isplitr; swap; · iexact H18
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H19]
  · iexists _; isplitr; swap; · iexact H19
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H20]
  · iexists _; isplitr; · ipureintro; exact ha20.read_unread _
    iexact H20
  isplitl [H21]
  · iexists _; isplitr; swap; · iexact H21
    ipureintro; sl_unfold_run_names; (refine (View.read_writes_cons_put _ _ _ _ _ rfl).trans ?_); simp (disch := decide) only [View.writes_nil, View.readAt_eq_ld, View.readAt_writes_full, View.ld_unit_lit', View.readCov_unit_lit', View.readCov_cons_unit_lit', Memref.IsWhole.read_unread]
  isplitl [H22]
  · iexists _; isplitr; swap; · iexact H22
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H23]
  · iexists _; isplitr; · ipureintro; exact ha23.read_unread _
    iexact H23
  isplitl [H24]
  · iexists _; isplitr; swap; · iexact H24
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  isplitl [H25]
  · iexists _; isplitr; swap; · iexact H25
    ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])
  iexists _; isplitr; swap; · iexact H26
  ipureintro; sl_unfold_run_names; (refine (View.read_writes_full _ _ _ _ _).trans ?_); (try simp (disch := decide) only [View.readAt_eq_ld, View.readAt_writes_full, View.ld_unit_lit', View.readCov_unit_lit', View.readCov_cons_unit_lit', Memref.IsWhole.read_unread])

end Cert.KernelIdeal.Body

end
-- ==== Proof.State.lean ====
/- # What the buffers hold after each grid point, and the pipeline's proof data -/
module

public import proofs.«01_k».proof.Proof.Runs
public import Idealize.ShloMosaic.Lib.Pointwise.Index

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents, in closed form -/

/-- The grid point of number `n`. -/
def pt (n : ℕ) : Fin cfg0.N := ⟨n % 50, lt_of_lt_of_eq (Nat.mod_lt n (by decide)) N_0.symm⟩

theorem pt_val (t : Fin cfg0.N) : pt t.val = t :=
  Fin.ext (Nat.mod_eq_of_lt (lt_of_lt_of_eq t.isLt N_0))

/-- The features layer 0 reads. -/
def hc0 (c : Dev nD) : Vec F S10000x128 .f32 :=
  k0_pay14 (iblk m c 2 (pt 0)) (iblk m c 3 (pt 0)) (iblk m c 4 (pt 0))

/-- The 400 rows the point of number `n` computes from the features `h`. -/
def convRows (c : Dev nD) (h : Vec F S10000x128 .f32) (n : ℕ) : Vec F S400x128 .f32 :=
  k0_pay20 (iblk m c 0 (pt n)) h (iblk m c 1 (pt n)) h (iblk m c 5 (pt n))

/-- The features layer 0 leaves: row `r` is row `r % 400` of block `r / 400`. -/
def hc1 (c : Dev nD) : Vec F S10000x128 .f32 := fun y =>
  k0_pay3 (convRows m c (hc0 m c) ((y 0).val / 400)) (ix2 ⟨(y 0).val % 400, Nat.mod_lt _ (by decide)⟩ (y 1))

/-- The features the point of number `n` reads. -/
def feat (c : Dev nD) (n : ℕ) : Vec F S10000x128 .f32 := if n < 25 then hc0 m c else k0_pay7 (hc1 m c)

/-- What the point `t` makes of the class means `old`. -/
abbrev cmAt (c : Dev nD) (t : Fin cfg0.N) (old : Vec F S16x64 .f32) : Vec F S16x64 .f32 :=
  cmStep (grid0.coords t) (iblk m c 0 t) (iblk m c 1 t) (iblk m c 5 t) (iblk m c 9 t) (feat m c t.val) old
/-- What the point `t` makes of the class counts `old`. -/
abbrev cntAt (c : Dev nD) (t : Fin cfg0.N) (old : Vec F S16x64 .f32) : Vec F S16x64 .f32 :=
  cntStep (grid0.coords t) (iblk m c 9 t) old
/-- What the point `t` makes of the sum of log-probabilities `old`. -/
abbrev supAt (c : Dev nD) (t : Fin cfg0.N) (old : Vec F S1x1 .f32) : Vec F S1x1 .f32 :=
  supStep (grid0.coords t) (iblk m c 0 t) (iblk m c 1 t) (iblk m c 5 t) (iblk m c 6 t) (iblk m c 9 t) (iblk m c 10 t) (feat m c t.val) old
/-- What the point `t` makes of the sum of the mask `old`. -/
abbrev mskAt (c : Dev nD) (t : Fin cfg0.N) (old : Vec F S1x1 .f32) : Vec F S1x1 .f32 :=
  mskStep (grid0.coords t) (iblk m c 10 t) old

/-- The class means after the point of number `n`: they start again with each layer. -/
def cmN (c : Dev nD) : ℕ → Vec F S16x64 .f32
  | 0 => cmAt m c (pt 0) k0_pay18
  | n + 1 => cmAt m c (pt (n + 1)) (if (n + 1) % 25 = 0 then k0_pay18 else cmN c n)
/-- The class counts after the point of number `n`: layer 1 leaves them. -/
def cntN (c : Dev nD) : ℕ → Vec F S16x64 .f32
  | 0 => cntAt m c (pt 0) k0_pay19
  | n + 1 => if n + 1 < 25 then cntAt m c (pt (n + 1)) (cntN c n) else cntN c n
/-- The sum of log-probabilities after the point of number `n`. -/
def supN (c : Dev nD) : ℕ → Vec F S1x1 .f32
  | 0 => supAt m c (pt 0) k0_pay15
  | n + 1 => supAt m c (pt (n + 1)) (supN c n)
/-- The sum of the mask after the point of number `n`. -/
def mskN (c : Dev nD) : ℕ → Vec F S1x1 .f32
  | 0 => mskAt m c (pt 0) k0_pay16
  | n + 1 => mskAt m c (pt (n + 1)) (mskN c n)
/-- The separation sum after the point of number `n`: the last point of a layer adds to it. -/
def sepN (c : Dev nD) : ℕ → Vec F S1x1 .f32
  | 0 => k0_pay17
  | n + 1 => if (n + 1) % 25 = 24 then k0_pay6 (cmN m c (n + 1)) (cntN m c (n + 1)) (sepN c n) else sepN c n

theorem cmN_first (c : Dev nD) (t : Fin cfg0.N) (h : t.val % 25 = 0) : cmN m c t.val = cmAt m c t k0_pay18 := by
  have e := pt_val t
  generalize t.val = n at h e
  subst e
  cases n with
  | zero => rfl
  | succ n => show cmAt m c _ (if _ then _ else _) = _; rw [if_pos h]
theorem cmN_next (c : Dev nD) (t : Fin cfg0.N) (h : t.val % 25 ≠ 0) : cmN m c t.val = cmAt m c t (cmN m c (t.val - 1)) := by
  have e := pt_val t
  generalize t.val = n at h e
  subst e
  cases n with
  | zero => exact absurd rfl h
  | succ n => show cmAt m c _ (if _ then _ else _) = _; rw [if_neg h]; rfl
theorem cntN_zero (c : Dev nD) (t : Fin cfg0.N) (h : t.val = 0) : cntN m c t.val = cntAt m c t k0_pay19 := by
  have e : t = pt 0 := by rw [← h, pt_val]
  subst e; rw [h]; rfl
theorem cntN_next (c : Dev nD) (t : Fin cfg0.N) (h : t.val ≠ 0) (h' : t.val < 25) :
    cntN m c t.val = cntAt m c t (cntN m c (t.val - 1)) := by
  obtain ⟨n, hn⟩ : ∃ n, t.val = n + 1 := ⟨t.val - 1, by omega⟩
  have e := pt_val t
  rw [hn] at e h'; rw [hn, ← e]
  show (if _ then _ else _) = _; rw [if_pos h']; rfl
theorem cntN_keep (c : Dev nD) (n : ℕ) (h : 25 ≤ n) : cntN m c n = cntN m c (n - 1) := by
  obtain ⟨k, rfl⟩ : ∃ k, n = k + 1 := ⟨n - 1, by omega⟩
  show (if _ then _ else _) = _; rw [if_neg (by omega)]; rfl
theorem supN_zero (c : Dev nD) (t : Fin cfg0.N) (h : t.val = 0) : supN m c t.val = supAt m c t k0_pay15 := by
  have e : t = pt 0 := by rw [← h, pt_val]
  subst e; rw [h]; rfl
theorem supN_next (c : Dev nD) (t : Fin cfg0.N) (h : t.val ≠ 0) : supN m c t.val = supAt m c t (supN m c (t.val - 1)) := by
  obtain ⟨n, hn⟩ : ∃ n, t.val = n + 1 := ⟨t.val - 1, by omega⟩
  have e := pt_val t
  rw [hn] at e; rw [hn, ← e]; rfl
theorem mskN_zero (c : Dev nD) (t : Fin cfg0.N) (h : t.val = 0) : mskN m c t.val = mskAt m c t k0_pay16 := by
  have e : t = pt 0 := by rw [← h, pt_val]
  subst e; rw [h]; rfl
theorem mskN_next (c : Dev nD) (t : Fin cfg0.N) (h : t.val ≠ 0) : mskN m c t.val = mskAt m c t (mskN m c (t.val - 1)) := by
  obtain ⟨n, hn⟩ : ∃ n, t.val = n + 1 := ⟨t.val - 1, by omega⟩
  have e := pt_val t
  rw [hn] at e; rw [hn, ← e]; rfl
theorem sepN_keep (c : Dev nD) (n : ℕ) (h : n ≠ 0) (h' : n % 25 ≠ 24) : sepN m c n = sepN m c (n - 1) := by
  obtain ⟨k, rfl⟩ : ∃ k, n = k + 1 := ⟨n - 1, by omega⟩
  show (if _ then _ else _) = _; rw [if_neg h']; rfl
theorem sepN_add (c : Dev nD) (n : ℕ) (h' : n % 25 = 24) :
    sepN m c n = k0_pay6 (cmN m c n) (cntN m c n) (sepN m c (n - 1)) := by
  obtain ⟨k, rfl⟩ : ∃ k, n = k + 1 := ⟨n - 1, by omega⟩
  show (if _ then _ else _) = _; rw [if_pos h']; rfl
theorem feat_lo (c : Dev nD) (n : ℕ) (h : n < 25) : feat m c n = hc0 m c := if_pos h
theorem feat_hi (c : Dev nD) (n : ℕ) (h : 25 ≤ n) : feat m c n = k0_pay7 (hc1 m c) := if_neg (by omega)

/-- What is known of the next layer's features after `n` points of layer 0: the first `400 n` rows. -/
def Known (c : Dev nD) (n : ℕ) (d : Vec F S10000x128 .f32) : Prop :=
  n ≤ 25 → ∀ y : S10000x128.Idx, (y 0).val < 400 * n → d y = hc1 m c y

/-- A point of layer 0 makes its 400 rows known. -/
theorem known_step (c : Dev nD) (t : Fin cfg0.N) (h : t.val < 25) (d : Vec F S10000x128 .f32) (hd : Known m c t.val d) :
    Known m c (t.val + 1) (nxtStep (grid0.coords t) (iblk m c 0 t) (iblk m c 1 t) (iblk m c 5 t) (hc0 m c) d) := by
  intro _ y hy
  have hoff := off2_eq t
  have hm : t.val % 25 = t.val := Nat.mod_eq_of_lt h
  rw [hm] at hoff
  unfold nxtStep
  rw [hoff]
  unfold VecWindow.put
  split
  · rename_i hw
    have h0 := hw 0
    have e1 : (y 0).val / 400 = t.val := by
      have a : 400 * t.val ≤ (y 0).val := h0.1
      have b : (y 0).val < 400 * t.val + 400 := h0.2
      omega
    have e2 : (y 0).val % 400 = (y 0).val - 400 * t.val := by
      have a : 400 * t.val ≤ (y 0).val := h0.1
      have b : (y 0).val < 400 * t.val + 400 := h0.2
      omega
    unfold hc1 convRows
    rw [e1, pt_val]
    refine congrArg _ (funext fun a => Fin.ext ?_)
    match a with
    | ⟨0, _⟩ => exact e2.symm
    | ⟨1, _⟩ => rfl
  · rename_i hw
    refine hd (by omega) y ?_
    by_contra hlt
    refine hw fun a => ?_
    match a with
    | ⟨0, _⟩ => exact ⟨show 400 * t.val ≤ (y 0).val by omega, show (y 0).val < 400 * t.val + 400 by omega⟩
    | ⟨1, _⟩ => exact ⟨Nat.zero_le _, show (y 1).val < 0 + 128 from by rw [Nat.zero_add]; exact (y 1).isLt⟩

/-- After all of layer 0 the next layer's features are known whole. -/
theorem known_all (c : Dev nD) (d : Vec F S10000x128 .f32) (hd : Known m c 25 d) : d = hc1 m c :=
  funext fun y => hd le_rfl y (y 0).isLt

/-! ## The scratch buffers between points -/

abbrev sc0 := Memref.whole cc0_scratch0
abbrev sc1 := Memref.whole cc0_scratch1
abbrev sc2 := Memref.whole cc0_scratch2
abbrev sc3 := Memref.whole cc0_scratch3
abbrev sc4 := Memref.whole cc0_scratch4
abbrev sc5 := Memref.whole cc0_scratch5
abbrev sc6 := Memref.whole cc0_scratch6

/-- The launch's scratch buffers at any contents, and the generator's register. -/
theorem scratch_any (c : Dev nD) : (Pipeline.ΦA spec0 c : sProp 𝕄) =
    iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)) := by
  unfold Pipeline.ΦA; rw [scopedRest0_eq]
  simp only [sc0, sc1, sc2, sc3, sc4, sc5, sc6, owns_whole]; try rfl

/-- The scratch buffers after the point of number `n`. -/
def after (c : Dev nD) (n : ℕ) : sProp 𝕄 :=
  iprop(iprop(owns (c : Thread nD τ) sc0 fullShare (feat m c (n + 1)) ∗ (∃ d, ⌜Known m c (n + 1) d⌝ ∗ owns (c : Thread nD τ) sc1 fullShare d)
      ∗ owns (c : Thread nD τ) sc2 fullShare (cmN m c n) ∗ owns (c : Thread nD τ) sc3 fullShare (cntN m c n)
      ∗ owns (c : Thread nD τ) sc4 fullShare (supN m c n) ∗ owns (c : Thread nD τ) sc5 fullShare (mskN m c n)
      ∗ owns (c : Thread nD τ) sc6 fullShare (sepN m c n)) ∗ (∃ r, prngReg c r))

/-- The invariant between points: anything before the first, then what the last point left. -/
def inv (c : Dev nD) : ℕ → sProp 𝕄
  | 0 => Pipeline.ΦA spec0 c
  | n + 1 => after m c n

theorem inv_pos (c : Dev nD) (n : ℕ) (h : n ≠ 0) : inv m c n = after m c (n - 1) := by
  cases n with
  | zero => exact absurd rfl h
  | succ n => rfl

/-! ## The proof data -/

/-- The 400 rows point `t` computes, and their real and imaginary halves. -/
abbrev nAt (c : Dev nD) (t : Fin cfg0.N) : Vec F S400x128 .f32 :=
  k0_pay20 (iblk m c 0 t) (feat m c t.val) (iblk m c 1 t) (feat m c t.val) (iblk m c 5 t)
abbrev nrAt (c : Dev nD) (t : Fin cfg0.N) : Vec F S400x64 .f32 :=
  k0_pay21 (iblk m c 0 t) (feat m c t.val) (iblk m c 1 t) (feat m c t.val) (iblk m c 5 t)
abbrev niAt (c : Dev nD) (t : Fin cfg0.N) : Vec F S400x64 .f32 :=
  k0_pay22 (iblk m c 0 t) (feat m c t.val) (iblk m c 1 t) (feat m c t.val) (iblk m c 5 t)

/-- The arrays as the region finds them; each input's buffer at its block; each output's at what a point of layer 1 stores
    (the last two: at what the last point stores). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => k0_pay9 (nrAt m c t)
    | ⟨12, _⟩ => k0_pay10 (niAt m c t)
    | ⟨13, _⟩ => k0_pay11 (nrAt m c t) (niAt m c t)
    | ⟨14, _⟩ => k0_pay12 (nrAt m c t) (niAt m c t)
    | ⟨15, _⟩ => k0_pay4 (k0_pay13 (nAt m c t) (iblk m c 7 t) (iblk m c 8 t))
    | ⟨16, _⟩ => k0_pay5 (k0_pay13 (nAt m c t) (iblk m c 7 t) (iblk m c 8 t))
    | ⟨17, _⟩ => sepN m c t.val
    | ⟨18, _⟩ => k0_pay8 (supN m c t.val) (mskN m c t.val)
    | ⟨_ + 19, h⟩ => absurd h (Nat.not_lt.2 (Nat.le_add_left _ _))
  Φ t := inv m c t.val
  q w := Pipeline.shareOf spec0 w
  owed _ := 0

theorem A_eq (c : Dev nD) (w : Fin cfg0.W) : (dats m 0 c).A w = V m c (Pipeline.arrRef spec0 w) := by
  dsimp only [dats]
theorem inv_before (c : Dev nD) (t : Fin cfg0.N) : (dats m 0 c).Φ t.castSucc = inv m c t.val := by
  dsimp only [dats]; rfl
theorem inv_after (c : Dev nD) (t : Fin cfg0.N) : (dats m 0 c).Φ t.succ = after m c t.val := by
  dsimp only [dats]; rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = k0_pay9 (nrAt m c t) := by dsimp only [dats]
theorem after_12 (c : Dev nD) (t : Fin cfg0.N) : (dats m 0 c).after 12 t = k0_pay10 (niAt m c t) := by dsimp only [dats]
theorem after_13 (c : Dev nD) (t : Fin cfg0.N) : (dats m 0 c).after 13 t = k0_pay11 (nrAt m c t) (niAt m c t) := by dsimp only [dats]
theorem after_14 (c : Dev nD) (t : Fin cfg0.N) : (dats m 0 c).after 14 t = k0_pay12 (nrAt m c t) (niAt m c t) := by dsimp only [dats]
theorem after_15 (c : Dev nD) (t : Fin cfg0.N) : (dats m 0 c).after 15 t = k0_pay4 (k0_pay13 (nAt m c t) (iblk m c 7 t) (iblk m c 8 t)) := by dsimp only [dats]
theorem after_16 (c : Dev nD) (t : Fin cfg0.N) : (dats m 0 c).after 16 t = k0_pay5 (k0_pay13 (nAt m c t) (iblk m c 7 t) (iblk m c 8 t)) := by dsimp only [dats]
theorem after_17 (c : Dev nD) (t : Fin cfg0.N) : (dats m 0 c).after 17 t = sepN m c t.val := by dsimp only [dats]
theorem after_18 (c : Dev nD) (t : Fin cfg0.N) : (dats m 0 c).after 18 t = k0_pay8 (supN m c t.val) (mskN m c t.val) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-! ## When an output's buffer is stored into -/

theorem idle_lo : ∀ t : Fin cfg0.N, t.val < 25 →
    (cfg0.idle 11 (grid0.coords t) = true ∧ (cfg0.win 11).flush t = false)
    ∧ (cfg0.idle 12 (grid0.coords t) = true ∧ (cfg0.win 12).flush t = false)
    ∧ (cfg0.idle 13 (grid0.coords t) = true ∧ (cfg0.win 13).flush t = false)
    ∧ (cfg0.idle 14 (grid0.coords t) = true ∧ (cfg0.win 14).flush t = false)
    ∧ (cfg0.idle 15 (grid0.coords t) = true ∧ (cfg0.win 15).flush t = false)
    ∧ (cfg0.idle 16 (grid0.coords t) = true ∧ (cfg0.win 16).flush t = false) := by decide +kernel

theorem live_hi : ∀ t : Fin cfg0.N, 25 ≤ t.val →
    cfg0.idle 11 (grid0.coords t) = false ∧ cfg0.idle 12 (grid0.coords t) = false ∧ cfg0.idle 13 (grid0.coords t) = false ∧ cfg0.idle 14 (grid0.coords t) = false ∧ cfg0.idle 15 (grid0.coords t) = false ∧ cfg0.idle 16 (grid0.coords t) = false := by decide +kernel
theorem idle_inner : ∀ t : Fin cfg0.N, t.val ≠ 49 →
    (cfg0.idle 17 (grid0.coords t) = true ∧ (cfg0.win 17).flush t = false) ∧ (cfg0.idle 18 (grid0.coords t) = true ∧ (cfg0.win 18).flush t = false) := by
  decide +kernel
theorem live_last : ∀ t : Fin cfg0.N, t.val = 49 → cfg0.idle 17 (grid0.coords t) = false ∧ cfg0.idle 18 (grid0.coords t) = false := by decide +kernel

/-- A buffer stored into is left at its new contents. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]
/-- A buffer not stored into is left as it was found. -/
theorem leaves_idle (c : Dev nD) (w : Fin cfg0.W) (t : Fin cfg0.N) (h : cfg0.idle w (grid0.coords t) = true ∧ (cfg0.win w).flush t = false) :
    (dats m 0 c).leavesExact w t = iprop(∃ d, owns (c : Thread nD τ) ((cfg0.win w).stage (cfg0.slots t w)) fullShare ((dats m 0 c).before w t d)) :=
  (dats m 0 c).leavesExact_idle w t h.1 h.2

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

end Cert.KernelIdeal.Body

end
-- ==== Proof.Points.lean ====
/- # The body at every grid point, case by case -/
module

public import proofs.«01_k».proof.Proof.State

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- The first point of all. -/
theorem body_start (c : Dev nD) (t : Fin cfg0.N) (h : t.val = 0) :
    bodyPre m c t ⊢ wp frame (wpE (defs₀ (F := F)) Variants.none c none) Set.univ (bodyAt0 t) (fun _ => bodyPost m c t) := by
  unfold bodyPre bodyAt0
  simp only [before_0, before_1, before_2, before_3, before_4, before_5, before_6, before_7, before_8, before_9, before_10]
  rw [inv_before]
  rw [h, show inv m c 0 = Pipeline.ΦA spec0 c from rfl, scratch_any]
  iintro ⟨⟨⟨⟨%s0, S0⟩, ⟨%s1, S1⟩, ⟨%s2, S2⟩, ⟨%s3, S3⟩, ⟨%s4, S4⟩, ⟨%s5, S5⟩, ⟨%s6, S6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (run_start c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _)
    ((isStart_iff t).mpr (by omega)) ((isFirst_iff t).mpr (by omega)) ((isLayer0_iff t).mpr (by omega)) (fun e => absurd ((cond5_iff t).mp e) (by omega)) (fun e => absurd ((cond6_iff t).mp e) (by omega))
    (iblk m c 0 t) (iblk m c 1 t) (iblk m c 2 t) (iblk m c 3 t) (iblk m c 4 t) (iblk m c 5 t) (iblk m c 6 t) (iblk m c 7 t) (iblk m c 8 t) (iblk m c 9 t) (iblk m c 10 t)
    ((dats m 0 c).before 11 t d11) ((dats m 0 c).before 12 t d12) ((dats m 0 c).before 13 t d13) ((dats m 0 c).before 14 t d14) ((dats m 0 c).before 15 t d15) ((dats m 0 c).before 16 t d16) ((dats m 0 c).before 17 t d17) ((dats m 0 c).before 18 t d18)
    s0 s1 s2 s3 s4 s5 s6
    Set.univ (fun _ => bodyPost m c t))
  unfold held
  isplitl [H0 H1 H2 H3 H4 H5 H6 H7 H8 H9 H10 H11 H12 H13 H14 H15 H16 H17 H18 S0 S1 S2 S3 S4 S5 S6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [S0]; · iexact S0
    isplitl [S1]; · iexact S1
    isplitl [S2]; · iexact S2
    isplitl [S3]; · iexact S3
    isplitl [S4]; · iexact S4
    isplitl [S5]; · iexact S5
    iexact S6
  iintro ⟨H0, H1, H2, H3, H4, H5, H6, H7, H8, H9, H10, H11, H12, H13, H14, H15, H16, H17, H18, S0, S1, S2, S3, S4, S5, S6⟩
  unfold bodyPost
  rw [inv_after, show (dats m 0 c).owesAt () t.succ = (dats m 0 c).owesAt () t.castSucc from rfl]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t rfl, after_7]
  rw [leaves_live m c 8 t rfl, after_8]
  rw [leaves_live m c 9 t rfl, after_9]
  rw [leaves_live m c 10 t rfl, after_10]
  rw [leaves_idle m c 11 t (idle_lo t (by omega)).1]
  rw [leaves_idle m c 12 t (idle_lo t (by omega)).2.1]
  rw [leaves_idle m c 13 t (idle_lo t (by omega)).2.2.1]
  rw [leaves_idle m c 14 t (idle_lo t (by omega)).2.2.2.1]
  rw [leaves_idle m c 15 t (idle_lo t (by omega)).2.2.2.2.1]
  rw [leaves_idle m c 16 t (idle_lo t (by omega)).2.2.2.2.2]
  rw [leaves_idle m c 17 t (idle_inner t (by omega)).1]
  rw [leaves_idle m c 18 t (idle_inner t (by omega)).2]
  unfold after
  rw [show feat m c (t.val + 1) = feat m c t.val from by rw [feat_lo m c _ (by omega), feat_lo m c _ (by omega)]]
  rw [show sepN m c t.val = k0_pay17 from by rw [h]; rfl]
  rw [cmN_first m c t (by omega)]
  rw [cntN_zero m c t h, supN_zero m c t h, mskN_zero m c t h]
  have ef : feat m c t.val = k0_pay14 (iblk m c 2 t) (iblk m c 3 t) (iblk m c 4 t) := by
    rw [feat_lo m c _ (by omega)]; unfold hc0; rw [show pt 0 = t from by rw [← h, pt_val]]
  have hk := known_step m c t (by omega) s1 (fun _ y hy => absurd hy (by omega))
  rw [← feat_lo m c t.val (by omega)] at hk
  rw [← ef]
  isplitl [S0 S1 S2 S3 S4 S5 S6 Hg]
  · isplitl [S0 S1 S2 S3 S4 S5 S6]
    · isplitl [S0]; · iexact S0
      isplitl [S1]
      · iexists _; isplitr; swap; · iexact S1
        ipureintro; exact hk
      isplitl [S2]; · iexact S2
      isplitl [S3]; · iexact S3
      isplitl [S4]; · iexact S4
      isplitl [S5]; · iexact S5
      iexact S6
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

set_option maxHeartbeats 1600000 in
/-- A point inside layer 0. -/
theorem body_mid0 (c : Dev nD) (t : Fin cfg0.N) (h : 0 < t.val ∧ t.val < 24) :
    bodyPre m c t ⊢ wp frame (wpE (defs₀ (F := F)) Variants.none c none) Set.univ (bodyAt0 t) (fun _ => bodyPost m c t) := by
  unfold bodyPre bodyAt0
  simp only [before_0, before_1, before_2, before_3, before_4, before_5, before_6, before_7, before_8, before_9, before_10]
  rw [inv_before]
  rw [inv_pos m c t.val (by omega)]
  unfold after
  rw [Nat.sub_add_cancel (show 1 ≤ t.val by omega)]
  iintro ⟨⟨⟨S0, ⟨%s1, %hs1, S1⟩, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (run_mid0 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _)
    (fun e => absurd ((isStart_iff t).mp e) (by omega)) (fun e => absurd ((isFirst_iff t).mp e) (by omega)) ((isLayer0_iff t).mpr (by omega)) (fun e => absurd ((cond5_iff t).mp e) (by omega)) (fun e => absurd ((cond6_iff t).mp e) (by omega))
    (iblk m c 0 t) (iblk m c 1 t) (iblk m c 2 t) (iblk m c 3 t) (iblk m c 4 t) (iblk m c 5 t) (iblk m c 6 t) (iblk m c 7 t) (iblk m c 8 t) (iblk m c 9 t) (iblk m c 10 t)
    ((dats m 0 c).before 11 t d11) ((dats m 0 c).before 12 t d12) ((dats m 0 c).before 13 t d13) ((dats m 0 c).before 14 t d14) ((dats m 0 c).before 15 t d15) ((dats m 0 c).before 16 t d16) ((dats m 0 c).before 17 t d17) ((dats m 0 c).before 18 t d18)
    (feat m c t.val) s1 (cmN m c (t.val - 1)) (cntN m c (t.val - 1)) (supN m c (t.val - 1)) (mskN m c (t.val - 1)) (sepN m c (t.val - 1))
    Set.univ (fun _ => bodyPost m c t))
  unfold held
  isplitl [H0 H1 H2 H3 H4 H5 H6 H7 H8 H9 H10 H11 H12 H13 H14 H15 H16 H17 H18 S0 S1 S2 S3 S4 S5 S6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [S0]; · iexact S0
    isplitl [S1]; · iexact S1
    isplitl [S2]; · iexact S2
    isplitl [S3]; · iexact S3
    isplitl [S4]; · iexact S4
    isplitl [S5]; · iexact S5
    iexact S6
  iintro ⟨H0, H1, H2, H3, H4, H5, H6, H7, H8, H9, H10, H11, H12, H13, H14, H15, H16, H17, H18, S0, S1, S2, S3, S4, S5, S6⟩
  unfold bodyPost
  rw [inv_after, show (dats m 0 c).owesAt () t.succ = (dats m 0 c).owesAt () t.castSucc from rfl]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t rfl, after_7]
  rw [leaves_live m c 8 t rfl, after_8]
  rw [leaves_live m c 9 t rfl, after_9]
  rw [leaves_live m c 10 t rfl, after_10]
  rw [leaves_idle m c 11 t (idle_lo t (by omega)).1]
  rw [leaves_idle m c 12 t (idle_lo t (by omega)).2.1]
  rw [leaves_idle m c 13 t (idle_lo t (by omega)).2.2.1]
  rw [leaves_idle m c 14 t (idle_lo t (by omega)).2.2.2.1]
  rw [leaves_idle m c 15 t (idle_lo t (by omega)).2.2.2.2.1]
  rw [leaves_idle m c 16 t (idle_lo t (by omega)).2.2.2.2.2]
  rw [leaves_idle m c 17 t (idle_inner t (by omega)).1]
  rw [leaves_idle m c 18 t (idle_inner t (by omega)).2]
  unfold after
  rw [show feat m c (t.val + 1) = feat m c t.val from by rw [feat_lo m c _ (by omega), feat_lo m c _ (by omega)]]
  rw [sepN_keep m c t.val (by omega) (by omega)]
  rw [cmN_next m c t (by omega)]
  rw [cntN_next m c t (by omega) (by omega)]
  rw [supN_next m c t (by omega), mskN_next m c t (by omega)]
  have hk := known_step m c t (by omega) s1 hs1
  rw [← feat_lo m c t.val (by omega)] at hk
  isplitl [S0 S1 S2 S3 S4 S5 S6 Hg]
  · isplitl [S0 S1 S2 S3 S4 S5 S6]
    · isplitl [S0]; · iexact S0
      isplitl [S1]
      · iexists _; isplitr; swap; · iexact S1
        ipureintro; exact hk
      isplitl [S2]; · iexact S2
      isplitl [S3]; · iexact S3
      isplitl [S4]; · iexact S4
      isplitl [S5]; · iexact S5
      iexact S6
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

set_option maxHeartbeats 1600000 in
/-- The last point of layer 0. -/
theorem body_end0 (c : Dev nD) (t : Fin cfg0.N) (h : t.val = 24) :
    bodyPre m c t ⊢ wp frame (wpE (defs₀ (F := F)) Variants.none c none) Set.univ (bodyAt0 t) (fun _ => bodyPost m c t) := by
  unfold bodyPre bodyAt0
  simp only [before_0, before_1, before_2, before_3, before_4, before_5, before_6, before_7, before_8, before_9, before_10]
  rw [inv_before]
  rw [inv_pos m c t.val (by omega)]
  unfold after
  rw [Nat.sub_add_cancel (show 1 ≤ t.val by omega)]
  iintro ⟨⟨⟨S0, ⟨%s1, %hs1, S1⟩, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (run_end0 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _)
    (fun e => absurd ((isStart_iff t).mp e) (by omega)) (fun e => absurd ((isFirst_iff t).mp e) (by omega)) ((isLayer0_iff t).mpr (by omega)) (fun e => absurd ((cond5_iff t).mp e) (by omega)) ((cond6_iff t).mpr (by omega)) ((isInner_iff t).mpr (by omega)) (fun e => absurd ((cond8_iff t).mp e) (by omega))
    (iblk m c 0 t) (iblk m c 1 t) (iblk m c 2 t) (iblk m c 3 t) (iblk m c 4 t) (iblk m c 5 t) (iblk m c 6 t) (iblk m c 7 t) (iblk m c 8 t) (iblk m c 9 t) (iblk m c 10 t)
    ((dats m 0 c).before 11 t d11) ((dats m 0 c).before 12 t d12) ((dats m 0 c).before 13 t d13) ((dats m 0 c).before 14 t d14) ((dats m 0 c).before 15 t d15) ((dats m 0 c).before 16 t d16) ((dats m 0 c).before 17 t d17) ((dats m 0 c).before 18 t d18)
    (feat m c t.val) s1 (cmN m c (t.val - 1)) (cntN m c (t.val - 1)) (supN m c (t.val - 1)) (mskN m c (t.val - 1)) (sepN m c (t.val - 1))
    Set.univ (fun _ => bodyPost m c t))
  unfold held
  isplitl [H0 H1 H2 H3 H4 H5 H6 H7 H8 H9 H10 H11 H12 H13 H14 H15 H16 H17 H18 S0 S1 S2 S3 S4 S5 S6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [S0]; · iexact S0
    isplitl [S1]; · iexact S1
    isplitl [S2]; · iexact S2
    isplitl [S3]; · iexact S3
    isplitl [S4]; · iexact S4
    isplitl [S5]; · iexact S5
    iexact S6
  iintro ⟨H0, H1, H2, H3, H4, H5, H6, H7, H8, H9, H10, H11, H12, H13, H14, H15, H16, H17, H18, S0, S1, S2, S3, S4, S5, S6⟩
  unfold bodyPost
  rw [inv_after, show (dats m 0 c).owesAt () t.succ = (dats m 0 c).owesAt () t.castSucc from rfl]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t rfl, after_7]
  rw [leaves_live m c 8 t rfl, after_8]
  rw [leaves_live m c 9 t rfl, after_9]
  rw [leaves_live m c 10 t rfl, after_10]
  rw [leaves_idle m c 11 t (idle_lo t (by omega)).1]
  rw [leaves_idle m c 12 t (idle_lo t (by omega)).2.1]
  rw [leaves_idle m c 13 t (idle_lo t (by omega)).2.2.1]
  rw [leaves_idle m c 14 t (idle_lo t (by omega)).2.2.2.1]
  rw [leaves_idle m c 15 t (idle_lo t (by omega)).2.2.2.2.1]
  rw [leaves_idle m c 16 t (idle_lo t (by omega)).2.2.2.2.2]
  rw [leaves_idle m c 17 t (idle_inner t (by omega)).1]
  rw [leaves_idle m c 18 t (idle_inner t (by omega)).2]
  unfold after
  rw [feat_hi m c (t.val + 1) (by omega)]
  rw [sepN_add m c t.val (by omega)]
  rw [cmN_next m c t (by omega)]
  rw [cntN_next m c t (by omega) (by omega)]
  rw [supN_next m c t (by omega), mskN_next m c t (by omega)]
  have hk := known_step m c t (by omega) s1 hs1
  rw [← feat_lo m c t.val (by omega)] at hk
  rw [← known_all m c _ (show Known m c 25 _ from by rw [show t.val + 1 = 25 from by omega] at hk; exact hk)]
  isplitl [S0 S1 S2 S3 S4 S5 S6 Hg]
  · isplitl [S0 S1 S2 S3 S4 S5 S6]
    · isplitl [S0]; · iexact S0
      isplitl [S1]
      · iexists _; isplitr; swap; · iexact S1
        ipureintro; exact hk
      isplitl [S2]; · iexact S2
      isplitl [S3]; · iexact S3
      isplitl [S4]; · iexact S4
      isplitl [S5]; · iexact S5
      iexact S6
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

set_option maxHeartbeats 1600000 in
/-- The first point of layer 1. -/
theorem body_start1 (c : Dev nD) (t : Fin cfg0.N) (h : t.val = 25) :
    bodyPre m c t ⊢ wp frame (wpE (defs₀ (F := F)) Variants.none c none) Set.univ (bodyAt0 t) (fun _ => bodyPost m c t) := by
  unfold bodyPre bodyAt0
  simp only [before_0, before_1, before_2, before_3, before_4, before_5, before_6, before_7, before_8, before_9, before_10]
  rw [inv_before]
  rw [inv_pos m c t.val (by omega)]
  unfold after
  rw [Nat.sub_add_cancel (show 1 ≤ t.val by omega)]
  iintro ⟨⟨⟨S0, ⟨%s1, %hs1, S1⟩, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (run_start1 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _)
    (fun e => absurd ((isStart_iff t).mp e) (by omega)) ((isFirst_iff t).mpr (by omega)) (fun e => absurd ((isLayer0_iff t).mp e) (by omega)) ((cond5_iff t).mpr (by omega)) (fun e => absurd ((cond6_iff t).mp e) (by omega))
    (iblk m c 0 t) (iblk m c 1 t) (iblk m c 2 t) (iblk m c 3 t) (iblk m c 4 t) (iblk m c 5 t) (iblk m c 6 t) (iblk m c 7 t) (iblk m c 8 t) (iblk m c 9 t) (iblk m c 10 t)
    ((dats m 0 c).before 11 t d11) ((dats m 0 c).before 12 t d12) ((dats m 0 c).before 13 t d13) ((dats m 0 c).before 14 t d14) ((dats m 0 c).before 15 t d15) ((dats m 0 c).before 16 t d16) ((dats m 0 c).before 17 t d17) ((dats m 0 c).before 18 t d18)
    (feat m c t.val) s1 (cmN m c (t.val - 1)) (cntN m c (t.val - 1)) (supN m c (t.val - 1)) (mskN m c (t.val - 1)) (sepN m c (t.val - 1))
    Set.univ (fun _ => bodyPost m c t))
  unfold held
  isplitl [H0 H1 H2 H3 H4 H5 H6 H7 H8 H9 H10 H11 H12 H13 H14 H15 H16 H17 H18 S0 S1 S2 S3 S4 S5 S6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [S0]; · iexact S0
    isplitl [S1]; · iexact S1
    isplitl [S2]; · iexact S2
    isplitl [S3]; · iexact S3
    isplitl [S4]; · iexact S4
    isplitl [S5]; · iexact S5
    iexact S6
  iintro ⟨H0, H1, H2, H3, H4, H5, H6, H7, H8, H9, H10, H11, H12, H13, H14, H15, H16, H17, H18, S0, S1, S2, S3, S4, S5, S6⟩
  unfold bodyPost
  rw [inv_after, show (dats m 0 c).owesAt () t.succ = (dats m 0 c).owesAt () t.castSucc from rfl]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t rfl, after_7]
  rw [leaves_live m c 8 t rfl, after_8]
  rw [leaves_live m c 9 t rfl, after_9]
  rw [leaves_live m c 10 t rfl, after_10]
  rw [leaves_live m c 11 t (live_hi t (by omega)).1, after_11]
  rw [leaves_live m c 12 t (live_hi t (by omega)).2.1, after_12]
  rw [leaves_live m c 13 t (live_hi t (by omega)).2.2.1, after_13]
  rw [leaves_live m c 14 t (live_hi t (by omega)).2.2.2.1, after_14]
  rw [leaves_live m c 15 t (live_hi t (by omega)).2.2.2.2.1, after_15]
  rw [leaves_live m c 16 t (live_hi t (by omega)).2.2.2.2.2, after_16]
  rw [leaves_idle m c 17 t (idle_inner t (by omega)).1]
  rw [leaves_idle m c 18 t (idle_inner t (by omega)).2]
  unfold after
  rw [show feat m c (t.val + 1) = feat m c t.val from by rw [feat_hi m c _ (by omega), feat_hi m c _ (by omega)]]
  rw [sepN_keep m c t.val (by omega) (by omega)]
  rw [cmN_first m c t (by omega)]
  rw [cntN_keep m c t.val (by omega)]
  rw [supN_next m c t (by omega), mskN_next m c t (by omega)]
  isplitl [S0 S1 S2 S3 S4 S5 S6 Hg]
  · isplitl [S0 S1 S2 S3 S4 S5 S6]
    · isplitl [S0]; · iexact S0
      isplitl [S1]
      · iexists _; isplitr; swap; · iexact S1
        ipureintro; exact fun e => absurd e (by omega)
      isplitl [S2]; · iexact S2
      isplitl [S3]; · iexact S3
      isplitl [S4]; · iexact S4
      isplitl [S5]; · iexact S5
      iexact S6
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iexists _; iexact H18

set_option maxHeartbeats 1600000 in
/-- A point inside layer 1. -/
theorem body_mid1 (c : Dev nD) (t : Fin cfg0.N) (h : 25 < t.val ∧ t.val < 49) :
    bodyPre m c t ⊢ wp frame (wpE (defs₀ (F := F)) Variants.none c none) Set.univ (bodyAt0 t) (fun _ => bodyPost m c t) := by
  unfold bodyPre bodyAt0
  simp only [before_0, before_1, before_2, before_3, before_4, before_5, before_6, before_7, before_8, before_9, before_10]
  rw [inv_before]
  rw [inv_pos m c t.val (by omega)]
  unfold after
  rw [Nat.sub_add_cancel (show 1 ≤ t.val by omega)]
  iintro ⟨⟨⟨S0, ⟨%s1, %hs1, S1⟩, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (run_mid1 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _)
    (fun e => absurd ((isStart_iff t).mp e) (by omega)) (fun e => absurd ((isFirst_iff t).mp e) (by omega)) (fun e => absurd ((isLayer0_iff t).mp e) (by omega)) ((cond5_iff t).mpr (by omega)) (fun e => absurd ((cond6_iff t).mp e) (by omega))
    (iblk m c 0 t) (iblk m c 1 t) (iblk m c 2 t) (iblk m c 3 t) (iblk m c 4 t) (iblk m c 5 t) (iblk m c 6 t) (iblk m c 7 t) (iblk m c 8 t) (iblk m c 9 t) (iblk m c 10 t)
    ((dats m 0 c).before 11 t d11) ((dats m 0 c).before 12 t d12) ((dats m 0 c).before 13 t d13) ((dats m 0 c).before 14 t d14) ((dats m 0 c).before 15 t d15) ((dats m 0 c).before 16 t d16) ((dats m 0 c).before 17 t d17) ((dats m 0 c).before 18 t d18)
    (feat m c t.val) s1 (cmN m c (t.val - 1)) (cntN m c (t.val - 1)) (supN m c (t.val - 1)) (mskN m c (t.val - 1)) (sepN m c (t.val - 1))
    Set.univ (fun _ => bodyPost m c t))
  unfold held
  isplitl [H0 H1 H2 H3 H4 H5 H6 H7 H8 H9 H10 H11 H12 H13 H14 H15 H16 H17 H18 S0 S1 S2 S3 S4 S5 S6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [S0]; · iexact S0
    isplitl [S1]; · iexact S1
    isplitl [S2]; · iexact S2
    isplitl [S3]; · iexact S3
    isplitl [S4]; · iexact S4
    isplitl [S5]; · iexact S5
    iexact S6
  iintro ⟨H0, H1, H2, H3, H4, H5, H6, H7, H8, H9, H10, H11, H12, H13, H14, H15, H16, H17, H18, S0, S1, S2, S3, S4, S5, S6⟩
  unfold bodyPost
  rw [inv_after, show (dats m 0 c).owesAt () t.succ = (dats m 0 c).owesAt () t.castSucc from rfl]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t rfl, after_7]
  rw [leaves_live m c 8 t rfl, after_8]
  rw [leaves_live m c 9 t rfl, after_9]
  rw [leaves_live m c 10 t rfl, after_10]
  rw [leaves_live m c 11 t (live_hi t (by omega)).1, after_11]
  rw [leaves_live m c 12 t (live_hi t (by omega)).2.1, after_12]
  rw [leaves_live m c 13 t (live_hi t (by omega)).2.2.1, after_13]
  rw [leaves_live m c 14 t (live_hi t (by omega)).2.2.2.1, after_14]
  rw [leaves_live m c 15 t (live_hi t (by omega)).2.2.2.2.1, after_15]
  rw [leaves_live m c 16 t (live_hi t (by omega)).2.2.2.2.2, after_16]
  rw [leaves_idle m c 17 t (idle_inner t (by omega)).1]
  rw [leaves_idle m c 18 t (idle_inner t (by omega)).2]
  unfold after
  rw [show feat m c (t.val + 1) = feat m c t.val from by rw [feat_hi m c _ (by omega), feat_hi m c _ (by omega)]]
  rw [sepN_keep m c t.val (by omega) (by omega)]
  rw [cmN_next m c t (by omega)]
  rw [cntN_keep m c t.val (by omega)]
  rw [supN_next m c t (by omega), mskN_next m c t (by omega)]
  isplitl [S0 S1 S2 S3 S4 S5 S6 Hg]
  · isplitl [S0 S1 S2 S3 S4 S5 S6]
    · isplitl [S0]; · iexact S0
      isplitl [S1]
      · iexists _; isplitr; swap; · iexact S1
        ipureintro; exact fun e => absurd e (by omega)
      isplitl [S2]; · iexact S2
      isplitl [S3]; · iexact S3
      isplitl [S4]; · iexact S4
      isplitl [S5]; · iexact S5
      iexact S6
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iexists _; iexact H18

set_option maxHeartbeats 1600000 in
/-- The last point of all. -/
theorem body_end1 (c : Dev nD) (t : Fin cfg0.N) (h : t.val = 49) :
    bodyPre m c t ⊢ wp frame (wpE (defs₀ (F := F)) Variants.none c none) Set.univ (bodyAt0 t) (fun _ => bodyPost m c t) := by
  unfold bodyPre bodyAt0
  simp only [before_0, before_1, before_2, before_3, before_4, before_5, before_6, before_7, before_8, before_9, before_10]
  rw [inv_before]
  rw [inv_pos m c t.val (by omega)]
  unfold after
  rw [Nat.sub_add_cancel (show 1 ≤ t.val by omega)]
  iintro ⟨⟨⟨S0, ⟨%s1, %hs1, S1⟩, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (run_end1 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _)
    (fun e => absurd ((isStart_iff t).mp e) (by omega)) (fun e => absurd ((isFirst_iff t).mp e) (by omega)) (fun e => absurd ((isLayer0_iff t).mp e) (by omega)) ((cond5_iff t).mpr (by omega)) ((cond6_iff t).mpr (by omega)) (fun e => absurd ((isInner_iff t).mp e) (by omega)) ((cond8_iff t).mpr (by omega))
    (iblk m c 0 t) (iblk m c 1 t) (iblk m c 2 t) (iblk m c 3 t) (iblk m c 4 t) (iblk m c 5 t) (iblk m c 6 t) (iblk m c 7 t) (iblk m c 8 t) (iblk m c 9 t) (iblk m c 10 t)
    ((dats m 0 c).before 11 t d11) ((dats m 0 c).before 12 t d12) ((dats m 0 c).before 13 t d13) ((dats m 0 c).before 14 t d14) ((dats m 0 c).before 15 t d15) ((dats m 0 c).before 16 t d16) ((dats m 0 c).before 17 t d17) ((dats m 0 c).before 18 t d18)
    (feat m c t.val) s1 (cmN m c (t.val - 1)) (cntN m c (t.val - 1)) (supN m c (t.val - 1)) (mskN m c (t.val - 1)) (sepN m c (t.val - 1))
    Set.univ (fun _ => bodyPost m c t))
  unfold held
  isplitl [H0 H1 H2 H3 H4 H5 H6 H7 H8 H9 H10 H11 H12 H13 H14 H15 H16 H17 H18 S0 S1 S2 S3 S4 S5 S6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [S0]; · iexact S0
    isplitl [S1]; · iexact S1
    isplitl [S2]; · iexact S2
    isplitl [S3]; · iexact S3
    isplitl [S4]; · iexact S4
    isplitl [S5]; · iexact S5
    iexact S6
  iintro ⟨H0, H1, H2, H3, H4, H5, H6, H7, H8, H9, H10, H11, H12, H13, H14, H15, H16, H17, H18, S0, S1, S2, S3, S4, S5, S6⟩
  unfold bodyPost
  rw [inv_after, show (dats m 0 c).owesAt () t.succ = (dats m 0 c).owesAt () t.castSucc from rfl]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t rfl, after_7]
  rw [leaves_live m c 8 t rfl, after_8]
  rw [leaves_live m c 9 t rfl, after_9]
  rw [leaves_live m c 10 t rfl, after_10]
  rw [leaves_live m c 11 t (live_hi t (by omega)).1, after_11]
  rw [leaves_live m c 12 t (live_hi t (by omega)).2.1, after_12]
  rw [leaves_live m c 13 t (live_hi t (by omega)).2.2.1, after_13]
  rw [leaves_live m c 14 t (live_hi t (by omega)).2.2.2.1, after_14]
  rw [leaves_live m c 15 t (live_hi t (by omega)).2.2.2.2.1, after_15]
  rw [leaves_live m c 16 t (live_hi t (by omega)).2.2.2.2.2, after_16]
  rw [leaves_live m c 17 t (live_last t (by omega)).1, after_17]
  rw [leaves_live m c 18 t (live_last t (by omega)).2, after_18]
  unfold after
  rw [show feat m c (t.val + 1) = feat m c t.val from by rw [feat_hi m c _ (by omega), feat_hi m c _ (by omega)]]
  rw [sepN_add m c t.val (by omega)]
  rw [cmN_next m c t (by omega)]
  rw [cntN_keep m c t.val (by omega)]
  rw [supN_next m c t (by omega), mskN_next m c t (by omega)]
  isplitl [S0 S1 S2 S3 S4 S5 S6 Hg]
  · isplitl [S0 S1 S2 S3 S4 S5 S6]
    · isplitl [S0]; · iexact S0
      isplitl [S1]
      · iexists _; isplitr; swap; · iexact S1
        ipureintro; exact fun e => absurd e (by omega)
      isplitl [S2]; · iexact S2
      isplitl [S3]; · iexact S3
      isplitl [S4]; · iexact S4
      isplitl [S5]; · iexact S5
      iexact S6
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

end Cert.KernelIdeal.Body

end
-- ==== Proof.Launch.lean ====
/- # The launch: its run, the contents it leaves, and the frames -/
module

public import proofs.«01_k».proof.Proof.Points

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- The body at any grid point. -/
theorem body_point (c : Dev nD) (t : Fin cfg0.N) :
    bodyPre m c t ⊢ wp frame (wpE (defs₀ (F := F)) Variants.none c none) Set.univ (bodyAt0 t) (fun _ => bodyPost m c t) := by
  have hN : t.val < 50 := lt_of_lt_of_eq t.isLt N_0
  rcases Nat.lt_or_ge t.val 25 with h | h
  · rcases Nat.eq_zero_or_pos t.val with h0 | h0
    · exact body_start m c t h0
    · rcases Nat.lt_or_ge t.val 24 with h1 | h1
      · exact body_mid0 m c t ⟨h0, h1⟩
      · exact body_end0 m c t (by omega)
  · rcases Nat.eq_or_lt_of_le h with h0 | h0
    · exact body_start1 m c t h0.symm
    · rcases Nat.lt_or_ge t.val 49 with h1 | h1
      · exact body_mid1 m c t ⟨h0, h1⟩
      · exact body_end1 m c t (by omega)

/-- The routine the pipeline calls at a point is the body there. -/
theorem body_called (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_called]
  exact triple_restated (body_point m c t) rfl .rfl fun _ => .rfl

/-- Before the first point the buffers hold anything. -/
theorem inv_enter (c : Dev nD) : (Pipeline.ΦA spec0 c : sProp 𝕄) ⊢ (dats m 0 c).Φ 0 := by
  rw [show (dats m 0 c).Φ 0 = Pipeline.ΦA spec0 c from by dsimp only [dats]; rfl]
  try exact Entails.refl _

/-- After the last point what they hold is forgotten. -/
theorem inv_leave (c : Dev nD) : (dats m 0 c).Φ (Fin.last cfg0.N) ⊢ (Pipeline.ΦA spec0 c : sProp 𝕄) := by
  rw [show (dats m 0 c).Φ (Fin.last cfg0.N) = inv m c (Fin.last cfg0.N).val from by dsimp only [dats],
    inv_pos m c _ (by rw [Fin.val_last]; have : cfg0.N = 50 := N_0; omega), scratch_any]
  unfold after
  iintro ⟨⟨S0, ⟨%s1, %hs1, S1⟩, S2, S3, S4, S5, S6⟩, Hg⟩
  isplitl [S0 S1 S2 S3 S4 S5 S6]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  · iexact Hg

set_option backward.isDefEq.respectTransparency.types false in
set_option maxHeartbeats 1600000 in
/-- The program's run: every buffer at its final contents, every semaphore back at zero. -/
theorem run_quiet (ρ : Dev nD → PrngReg) :
    θ_run defs (onTc (τ := τ) (main (F := F))) (s₀ m ρ)
      (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hin := inv_enter m) (hout := inv_leave m)

/-- The program's run, the contents alone. -/
theorem run_main (ρ : Dev nD → PrngReg) :
    θ_run defs (onTc (τ := τ) (main (F := F))) (s₀ m ρ)
      (Pipeline.FramePost cfgs (dats m) 0 (Pipeline.afterTail₀ cfgs (dats m) 0 (V0 m) [hostOps1])) :=
  (θ_run defs _ _).mono (fun _ h => h.1) (run_quiet m ρ)

end Cert.KernelIdeal.Body

end
-- ==== Proof.Same.lean ====
/- # The kernel as written and its idealized text are one program at bits -/
module

public import proofs.«01_k».proof.Proof.Gen.Kernel
public import proofs.«01_k».proof.Proof.Gen.KernelIdeal
public import proofs.«01_k».proof.Defs

@[expose] public section

set_option maxRecDepth 8192
set_option maxHeartbeats 2000000

namespace Cert.Proof

open Idealize.ShloMosaic Idealize.SL.Sem

/-- The two bodies are one. -/
theorem body_same : Cert.Kernel.cc0__fwd_body (F := Bits) = Cert.KernelIdeal.cc0__fwd_body (F := Bits) := rfl

/-- The two tables of routines under the pipeline are one. -/
theorem routines_same : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl
  | ⟨_ + 1, h⟩, _ => exact absurd h (Nat.not_lt.2 (Nat.le_add_left _ _))

/-- The two tables of routines are one. -/
theorem defs_same : Cert.Kernel.defs (F := Bits) = Cert.KernelIdeal.defs (F := Bits) := by
  show Pipeline.defs Cert.KernelIdeal.pcfgs Cert.Kernel.defs₀ = Pipeline.defs Cert.KernelIdeal.pcfgs Cert.KernelIdeal.defs₀
  rw [← routines_same]

/-- The two host programs are one. -/
theorem main_same : Cert.Kernel.main (F := Bits) = Cert.KernelIdeal.main (F := Bits) := rfl

end Cert.Proof
-- ==== Proof.Frames.lean ====
/- # The frames: each program ends with its arguments unchanged and every semaphore at zero -/
module

public import proofs.«01_k».proof.Proof.Launch
public import proofs.«01_k».proof.Proof.Same
public import proofs.«01_k».proof.Proof.Gen.ReferenceIdeal.Run
public import proofs.«01_k».proof.Defs
public import proofs.«01_k».proof.Proof.Gen.Kernel
public import Idealize.ShloMosaic.Lib.Claim

@[expose] public section

noncomputable section

namespace Cert.Proof

open Idealize.ShloMosaic Idealize.SL.Sem

/-- The idealized kernel's text read over any floats: its arguments end unchanged and every semaphore at zero. -/
theorem kernel_frame {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
        ∧ r.2.sem = fun _ => 0) := by
  exact θ_run_and (Cert.KernelIdeal.Gen.frame_of m ρ (Cert.KernelIdeal.Body.dats m) (Cert.KernelIdeal.Body.A_eq m) (Cert.KernelIdeal.Body.run_main m ρ))
    ((θ_run _ _ _).mono (fun _ h => h.2) (Cert.KernelIdeal.Body.run_quiet m ρ))

set_option maxRecDepth 8192 in
set_option maxHeartbeats 4000000 in
/-- The kernel as written: the idealized text is its own, so the run above read at bits is its run. -/
theorem frame_kernel : Cert.quiescent_Kernel := by
  intro m ρ _
  have h := kernel_frame (F := Bits) m ρ
  rw [← defs_same, ← main_same] at h
  exact h

/-- The idealized kernel: that run read at the ideal floats. -/
theorem frame_ideal : Cert.quiescent_KernelIdeal := fun m ρ _ => kernel_frame (F := Ideal) m ρ

/-- The reference: its run, and that it declares no semaphore. -/
theorem frame_reference : Cert.quiescent_ReferenceIdeal := fun m ρ _ =>
  (θ_run Cert.ReferenceIdeal.defs _ _).mono (fun r h => ⟨fun c => (h c).2.2.2.2.2.2.2.2, sem_eq_zero_of_no_sems (by decide) r.2⟩)
    (Cert.ReferenceIdeal.Value.run (F := Ideal) m ρ)

/-- The idealized kernel is the kernel's own text. -/
theorem preserves_kernel : Cert.preserves_Kernel_KernelIdeal := trivial

end Cert.Proof

end
-- ==== Proof.Math.lean ====
/- # The functions the kernel computes, on plain arrays of extended reals -/
module

public import Idealize.ShloMosaic.Lib.IdealHost
public import Idealize.ShloMosaic.PureOps.Ideal.Laws

@[expose] public section

noncomputable section

namespace Cert.Math

open Idealize.ShloMosaic

/-- The fifteen arguments, as functions of plain indices. -/
structure Args where
  x : Fin 10000 → Fin 128 → EReal
  adj : Fin 10000 → Fin 10000 → EReal
  wr : Fin 128 → Fin 64 → EReal
  wi : Fin 128 → Fin 64 → EReal
  br : Fin 64 → EReal
  bi : Fin 64 → EReal
  cr : Fin 2 → Fin 64 → Fin 64 → EReal
  ci : Fin 2 → Fin 64 → Fin 64 → EReal
  cc : Fin 2 → Fin 128 → Fin 16 → EReal
  vr : Fin 64 → Fin 16 → EReal
  vi : Fin 64 → Fin 16 → EReal
  dr : Fin 16 → EReal
  di : Fin 16 → EReal
  lab : Fin 10000 → BitVec 32
  msk : Fin 10000 → BitVec 1

variable (A : Args)

/-- The two first weight matrices side by side. -/
def w0 (k j : Fin 128) : EReal := if h : j.val < 64 then A.wr k ⟨j.val, h⟩ else A.wi k ⟨j.val - 64, by omega⟩
/-- The two first biases in a row. -/
def b0 (j : Fin 128) : EReal := if h : j.val < 64 then A.br ⟨j.val, h⟩ else A.bi ⟨j.val - 64, by omega⟩
/-- The block matrix `[[R, I], [-I, R]]` of a layer. -/
def ms (l : Fin 2) (k j : Fin 128) : EReal :=
  if h : k.val < 64 then
    if h' : j.val < 64 then A.cr l ⟨k.val, h⟩ ⟨j.val, h'⟩ else A.ci l ⟨k.val, h⟩ ⟨j.val - 64, by omega⟩
  else
    if h' : j.val < 64 then -A.ci l ⟨k.val - 64, by omega⟩ ⟨j.val, h'⟩ else A.cr l ⟨k.val - 64, by omega⟩ ⟨j.val - 64, by omega⟩
/-- The block matrix `[[R, I], [-I, R]]` of the last map. -/
def mo (k : Fin 128) (j : Fin 32) : EReal :=
  if h : k.val < 64 then
    if h' : j.val < 16 then A.vr ⟨k.val, h⟩ ⟨j.val, h'⟩ else A.vi ⟨k.val, h⟩ ⟨j.val - 16, by omega⟩
  else
    if h' : j.val < 16 then -A.vi ⟨k.val - 64, by omega⟩ ⟨j.val, h'⟩ else A.vr ⟨k.val - 64, by omega⟩ ⟨j.val - 16, by omega⟩
/-- The last biases in a row. -/
def bo (j : Fin 32) : EReal := if h : j.val < 16 then A.dr ⟨j.val, h⟩ else A.di ⟨j.val - 16, by omega⟩
/-- The mask as a number. -/
def mk (r : Fin 10000) : EReal := FloatOps.uitofp (F := Ideal) .f32 (A.msk r)

/-- The features layer 0 reads. -/
def h0 (r : Fin 10000) (j : Fin 128) : EReal := max (∑ k, A.x r k * w0 A k j + b0 A j) 0
/-- What a layer makes of the features `H`. -/
def cv (l : Fin 2) (H : Fin 10000 → Fin 128 → EReal) (r : Fin 10000) (j : Fin 128) : EReal :=
  ∑ k, (∑ s, A.adj r s * H s k) * ms A l k j
/-- The features each layer reads. -/
def hh (l : Fin 2) (r : Fin 10000) (j : Fin 128) : EReal := if l = 0 then h0 A r j else max (cv A 0 (h0 A) r j) 0
/-- What each layer makes of the features it reads. -/
def nn (l : Fin 2) : Fin 10000 → Fin 128 → EReal := cv A l (hh A l)

/-- The column of the real half. -/
abbrev lo (j : Fin 64) : Fin 128 := ⟨j.val, by omega⟩
/-- The column of the imaginary half. -/
abbrev hi (j : Fin 64) : Fin 128 := ⟨64 + j.val, by omega⟩

/-- The printed 1e-12. -/
abbrev e12 : EReal := Ideal.ofBits .f32 0x2B8CBCCC#32
/-- The printed 1e-8. -/
abbrev e8 : EReal := Ideal.ofBits .f32 0x322BCC77#32

/-- The angle of `a + i b`, 0 where its square is not above the bound. -/
def ang (a b : EReal) : EReal :=
  if e12 < a * a + b * b then Ideal.atan2 (if e12 < a * a + b * b then b else 0) (if e12 < a * a + b * b then a else 1) else 0
/-- The norm of `a + i b`, kept off zero. -/
def nrm (a b : EReal) : EReal := Ideal.sqrt (a * a + b * b + e12)

/-- One entry of the one-hot table of the labels. -/
def oh (r : Fin 10000) (q : Fin 16) : EReal :=
  FloatOps.sitofp (F := Ideal) .f32 (BitVec.setWidth 32 (IntOp.cmpi .eq (A.lab r) (BitVec.ofNat 32 q.val)))
/-- A layer's class logits. -/
def lg (l : Fin 2) (r : Fin 10000) (q : Fin 16) : EReal := ∑ k, nn A l r k * A.cc l k q
/-- The greatest entry of a row of sixteen. -/
def mx (f : Fin 16 → EReal) : EReal := Finset.univ.fold max (Ideal.ofBits .f32 0xFF800000#32) f
/-- The logarithm of the softmax, the shift and the logarithm taken off together. -/
def lp (f : Fin 16 → EReal) (q : Fin 16) : EReal := f q - (mx f + Ideal.log (∑ k, Ideal.exp (f k - mx f)))
/-- A layer's angles. -/
def an (l : Fin 2) (r : Fin 10000) (j : Fin 64) : EReal := ang (nn A l r (lo j)) (nn A l r (hi j))
/-- A layer's sums of angles over each class. -/
def cm (l : Fin 2) (q : Fin 16) (j : Fin 64) : EReal := ∑ r, oh A r q * an A l r j
/-- The number of rows of each class. -/
def cnt (q : Fin 16) : EReal := ∑ r, oh A r q
/-- One row's part of the supervised sum. -/
def sr (l : Fin 2) (r : Fin 10000) : EReal := (∑ q, oh A r q * lp (lg A l r) q) * mk A r
/-- The mean angle of a class. -/
def mean (l : Fin 2) (q : Fin 16) (j : Fin 64) : EReal := Ideal.div (cm A l q j) (cnt A q + e8)
/-- A layer's separation. -/
def sep (l : Fin 2) : EReal :=
  Ideal.div
    (∑ j, ((∑ q, Ideal.cos (mean A l q j)) * (∑ q, Ideal.cos (mean A l q j))
        + (∑ q, Ideal.sin (mean A l q j)) * (∑ q, Ideal.sin (mean A l q j))) - Ideal.ofBits .f32 0x44800000#32)
    (Ideal.ofBits .f32 0x46700000#32)
/-- The supervised loss. -/
def sup : EReal :=
  Ideal.div (0 - (∑ r, sr A 0 r + ∑ r, sr A 1 r))
    (Ideal.div (∑ r, mk A r + ∑ r, mk A r) (Ideal.ofBits .f32 0x40000000#32) + e8)
/-- The last layer's real part, cut at zero. -/
def fr (r : Fin 10000) (j : Fin 64) : EReal := max (nn A 1 r (lo j)) 0
/-- The last layer's imaginary part, cut at zero. -/
def fi (r : Fin 10000) (j : Fin 64) : EReal := max (nn A 1 r (hi j)) 0
/-- The last map, both parts side by side. -/
def out (r : Fin 10000) (j : Fin 32) : EReal := ∑ k, max (nn A 1 r k) 0 * mo A k j + bo A j

/-- The last map's real part. -/
def outr (r : Fin 10000) (j : Fin 16) : EReal := out A r ⟨j.val, by omega⟩
/-- The last map's imaginary part. -/
def outi (r : Fin 10000) (j : Fin 16) : EReal := out A r ⟨16 + j.val, by omega⟩

/-- Row `p` of the block of 400 rows of the point of number `n`. -/
def blk (n : ℕ) (p : Fin 400) : Fin 10000 := ⟨400 * (n % 25) + p.val, by omega⟩
/-- The layer of the point of number `n`. -/
def lyr (n : ℕ) : Fin 2 := if n < 25 then 0 else 1

/-- A sum over twenty-five blocks of 400 rows is the sum over the rows. -/
theorem sum_blocks (f : Fin 10000 → EReal) (b : ℕ) (hb : b % 25 = 0) :
    ∑ i ∈ Finset.range 25, ∑ p, f (blk (b + i) p) = ∑ r, f r := by
  rw [← Equiv.sum_comp (finProdFinEquiv : Fin 25 × Fin 400 ≃ Fin 10000) f, Fintype.sum_prod_type,
    ← Fin.sum_univ_eq_sum_range (fun i => ∑ p, f (blk (b + i) p)) 25]
  refine Finset.sum_congr rfl fun i _ => Finset.sum_congr rfl fun p _ => congrArg f (Fin.ext ?_)
  show 400 * ((b + i.val) % 25) + p.val = p.val + 400 * i.val
  have := i.isLt
  omega

end Cert.Math

end
-- ==== Proof.Inputs.lean ====
/- # The arrays the windows cut, at an index, and each window's block read in them -/
module

public import proofs.«01_k».proof.Proof.State
public import proofs.«01_k».proof.Proof.Math
public import Idealize.ShloMosaic.Lib.Pipeline.ValueKit
public import Idealize.ShloMosaic.Lib.Pipeline.ValueKit.Point
public import Idealize.ShloMosaic.Lib.StableHlo.ReadAt
public import Idealize.ShloMosaic.Lib.Pointwise

@[expose] public section

set_option maxRecDepth 16384

noncomputable section

namespace Cert.KernelIdeal.Body

open Idealize.ShloMosaic Idealize.ShloMosaic.TcCoe Idealize.ShloMosaic.Tactic
open Idealize.ShloMosaic.Pipeline (Dat Cfg Window BodyObligation cellOf)
open Cert.KernelIdeal.Gen

variable (m : (ℓ : Loc nD τ sig) → Buf (Elt Ideal) ℓ)

/-- The arguments the program was launched with. -/
def args (c : Dev nD) : Math.Args where
  x r k := m ((c : Thread nD τ).loc main_arg0) (ix2 r k)
  adj r s := m ((c : Thread nD τ).loc main_arg1) (ix2 r s)
  wr k j := m ((c : Thread nD τ).loc main_arg2) (ix2 k j)
  wi k j := m ((c : Thread nD τ).loc main_arg3) (ix2 k j)
  br j := m ((c : Thread nD τ).loc main_arg4) (ix1 j)
  bi j := m ((c : Thread nD τ).loc main_arg5) (ix1 j)
  cr l k j := m ((c : Thread nD τ).loc main_arg6) (ix3 l k j)
  ci l k j := m ((c : Thread nD τ).loc main_arg7) (ix3 l k j)
  cc l k j := m ((c : Thread nD τ).loc main_arg8) (ix3 l k j)
  vr k j := m ((c : Thread nD τ).loc main_arg9) (ix2 k j)
  vi k j := m ((c : Thread nD τ).loc main_arg10) (ix2 k j)
  dr j := m ((c : Thread nD τ).loc main_arg11) (ix1 j)
  di j := m ((c : Thread nD τ).loc main_arg12) (ix1 j)
  lab r := m ((c : Thread nD τ).loc main_arg13) (ix1 r)
  msk r := m ((c : Thread nD τ).loc main_arg14) (ix1 r)

/-! ## What the host operations before the region leave -/

theorem V_v0 (c : Dev nD) (k j : Fin 128) : V m c main_v0 (ix2 k j) = Math.w0 (args m c) k j := by
  unfold V V0
  after_reads_at
  rfl

theorem V_v2 (c : Dev nD) (k : Fin 1) (j : Fin 128) : V m c main_v2 (ix2 k j) = Math.b0 (args m c) j := by
  unfold V V0
  after_reads_at
  all_goals try unfold StableHlo.upto
  all_goals try after_reads_at
  rfl

theorem V_v6 (c : Dev nD) (l : Fin 2) (k j : Fin 128) : V m c main_v6 (ix3 l k j) = Math.ms (args m c) l k j := by
  unfold V V0
  after_reads_at
  all_goals try unfold StableHlo.upto
  all_goals try after_reads_at
  rfl

theorem V_v8 (c : Dev nD) (k : Fin 128) (j : Fin 32) : V m c main_v8 (ix2 k j) = Math.mo (args m c) k j := by
  unfold V V0
  after_reads_at
  all_goals try unfold StableHlo.upto
  all_goals try after_reads_at
  rfl

theorem V_v10 (c : Dev nD) (k : Fin 1) (j : Fin 32) : V m c main_v10 (ix2 k j) = Math.bo (args m c) j := by
  unfold V V0
  after_reads_at
  all_goals try unfold StableHlo.upto
  all_goals try after_reads_at
  rfl

theorem V_v11 (c : Dev nD) (k : Fin 10000) (j : Fin 1) : V m c main_v11 (ix2 k j) = (args m c).lab k := by
  unfold V V0
  after_reads_at
  rfl

theorem V_v13 (c : Dev nD) (k : Fin 10000) (j : Fin 1) : V m c main_v13 (ix2 k j) = Math.mk (args m c) k := by
  unfold V V0
  after_reads_at
  rfl

/-! ## Each input window's block at an index -/

/-- The block each window stages at a point. -/
theorem idx : ∀ t : Fin cfg0.N,
    win0_0.index t = ![2 * (t.val % 25), 0] ∧ win0_1.index t = ![2 * (t.val % 25) + 1, 0] ∧ win0_2.index t = ![0, 0]
    ∧ win0_3.index t = ![0, 0] ∧ win0_4.index t = ![0, 0] ∧ win0_5.index t = ![t.val / 25, 0, 0]
    ∧ win0_6.index t = ![t.val / 25, 0, 0] ∧ win0_7.index t = ![0, 0] ∧ win0_8.index t = ![0, 0]
    ∧ win0_9.index t = ![0, 0] ∧ win0_10.index t = ![0, 0] :=
  (by decide +kernel : ∀ t : Fin grid0.N,
    win0_0.index t = ![2 * (t.val % 25), 0] ∧ win0_1.index t = ![2 * (t.val % 25) + 1, 0] ∧ win0_2.index t = ![0, 0]
    ∧ win0_3.index t = ![0, 0] ∧ win0_4.index t = ![0, 0] ∧ win0_5.index t = ![t.val / 25, 0, 0]
    ∧ win0_6.index t = ![t.val / 25, 0, 0] ∧ win0_7.index t = ![0, 0] ∧ win0_8.index t = ![0, 0]
    ∧ win0_9.index t = ![0, 0] ∧ win0_10.index t = ![0, 0])

/-- The layer of a point. -/
def lay (t : Fin cfg0.N) : Fin 2 := ⟨t.val / 25, by have := lt_of_lt_of_eq t.isLt N_0; omega⟩
/-- Row `p` of the point's block of 400 rows. -/
def row (t : Fin cfg0.N) (p : Fin 400) : Fin 10000 := ⟨400 * (t.val % 25) + p.val, by omega⟩

theorem iblk_0 (c : Dev nD) (t : Fin cfg0.N) (p : Fin 200) (s : Fin 10000) :
    iblk m c 0 t (ix2 p s) = (args m c).adj (row t ⟨p.val, by omega⟩) s := by
  unfold args row
  blk_ext [iblk, V, idx t]
theorem iblk_1 (c : Dev nD) (t : Fin cfg0.N) (p : Fin 200) (s : Fin 10000) :
    iblk m c 1 t (ix2 p s) = (args m c).adj (row t ⟨200 + p.val, by omega⟩) s := by
  unfold args row
  blk_ext [iblk, V, idx t]
theorem iblk_2 (c : Dev nD) (t : Fin cfg0.N) (r : Fin 10000) (k : Fin 128) :
    iblk m c 2 t (ix2 r k) = (args m c).x r k := by
  unfold args
  blk_ext [iblk, V, idx t]
theorem iblk_3 (c : Dev nD) (t : Fin cfg0.N) (k j : Fin 128) : iblk m c 3 t (ix2 k j) = Math.w0 (args m c) k j := by
  rw [← V_v0]
  blk_ext [iblk, idx t]
theorem iblk_4 (c : Dev nD) (t : Fin cfg0.N) (k : Fin 1) (j : Fin 128) : iblk m c 4 t (ix2 k j) = Math.b0 (args m c) j := by
  rw [← V_v2 m c k]
  blk_ext [iblk, idx t]
theorem iblk_5 (c : Dev nD) (t : Fin cfg0.N) (z : Fin 1) (k j : Fin 128) :
    iblk m c 5 t (ix3 z k j) = Math.ms (args m c) (lay t) k j := by
  rw [← V_v6]
  unfold lay
  blk_ext [iblk, idx t]
theorem iblk_6 (c : Dev nD) (t : Fin cfg0.N) (z : Fin 1) (k : Fin 128) (j : Fin 16) :
    iblk m c 6 t (ix3 z k j) = (args m c).cc (lay t) k j := by
  unfold args lay
  blk_ext [iblk, V, idx t]
theorem iblk_7 (c : Dev nD) (t : Fin cfg0.N) (k : Fin 128) (j : Fin 32) : iblk m c 7 t (ix2 k j) = Math.mo (args m c) k j := by
  rw [← V_v8]
  blk_ext [iblk, idx t]
theorem iblk_8 (c : Dev nD) (t : Fin cfg0.N) (k : Fin 1) (j : Fin 32) : iblk m c 8 t (ix2 k j) = Math.bo (args m c) j := by
  rw [← V_v10 m c k]
  blk_ext [iblk, idx t]
theorem iblk_9 (c : Dev nD) (t : Fin cfg0.N) (r : Fin 10000) (z : Fin 1) : iblk m c 9 t (ix2 r z) = (args m c).lab r := by
  rw [← V_v11 m c r z]
  blk_ext [iblk, idx t]
theorem iblk_10 (c : Dev nD) (t : Fin cfg0.N) (r : Fin 10000) (z : Fin 1) : iblk m c 10 t (ix2 r z) = Math.mk (args m c) r := by
  rw [← V_v13 m c r z]
  blk_ext [iblk, idx t]

end Cert.KernelIdeal.Body

end
-- ==== Proof.Payloads.lean ====
/- # The rows each grid point computes, at an index -/
module

public import proofs.«01_k».proof.Proof.Inputs

@[expose] public section

set_option maxRecDepth 16384

noncomputable section

namespace Cert.KernelIdeal.Body

open Idealize.ShloMosaic Idealize.ShloMosaic.TcCoe Idealize.ShloMosaic.Tactic
open Idealize.ShloMosaic.Pipeline (Dat Cfg Window BodyObligation cellOf)
open Cert.KernelIdeal.Gen

variable (m : (ℓ : Loc nD τ sig) → Buf (Elt Ideal) ℓ)

/-! ## The payloads at an index -/

theorem pay20_at (a0 a1 : Vec Ideal S200x10000 .f32) (h : Vec Ideal S10000x128 .f32) (w : Vec Ideal S1x128x128 .f32)
    (p : Fin 400) (j : Fin 128) :
    k0_pay20 a0 h a1 h w (ix2 p j) = ∑ k : Fin 128, (∑ s : Fin 10000,
      (if hp : p.val < 200 then a0 (ix2 ⟨p.val, hp⟩ s) else a1 (ix2 ⟨p.val - 200, by omega⟩ s)) * h (ix2 s k)) * w (ix3 0 k j) := by
  pointwise [k0_pay20]
  refine Finset.sum_congr rfl fun k _ => congrArg (· * _) ?_
  split <;> rfl
theorem pay21_at (a0 a1 : Vec Ideal S200x10000 .f32) (h : Vec Ideal S10000x128 .f32) (w : Vec Ideal S1x128x128 .f32)
    (p : Fin 400) (j : Fin 64) : k0_pay21 a0 h a1 h w (ix2 p j) = k0_pay20 a0 h a1 h w (ix2 p (Math.lo j)) := by
  pointwise [k0_pay21]
theorem pay22_at (a0 a1 : Vec Ideal S200x10000 .f32) (h : Vec Ideal S10000x128 .f32) (w : Vec Ideal S1x128x128 .f32)
    (p : Fin 400) (j : Fin 64) : k0_pay22 a0 h a1 h w (ix2 p j) = k0_pay20 a0 h a1 h w (ix2 p (Math.hi j)) := by
  pointwise [k0_pay22]
theorem pay3_at (a : FVec Ideal S400x128 .f32) (p : Fin 400) (j : Fin 128) : k0_pay3 a (ix2 p j) = max (a (ix2 p j)) 0 := by
  pointwise [k0_pay3]
theorem pay7_at (a : Vec Ideal S10000x128 .f32) (p : Fin 10000) (j : Fin 128) : k0_pay7 a (ix2 p j) = a (ix2 p j) := by
  pointwise [k0_pay7]
theorem pay9_at (a : FVec Ideal S400x64 .f32) (p : Fin 400) (j : Fin 64) : k0_pay9 a (ix2 p j) = max (a (ix2 p j)) 0 := by
  pointwise [k0_pay9]
theorem pay10_at (a : FVec Ideal S400x64 .f32) (p : Fin 400) (j : Fin 64) : k0_pay10 a (ix2 p j) = max (a (ix2 p j)) 0 := by
  pointwise [k0_pay10]
theorem pay11_at (a b : FVec Ideal S400x64 .f32) (p : Fin 400) (j : Fin 64) :
    k0_pay11 a b (ix2 p j) = Math.ang (max (a (ix2 p j)) 0) (max (b (ix2 p j)) 0) := by
  pointwise [k0_pay11, k0_pay9, k0_pay10, Math.ang]
theorem pay12_at (a b : FVec Ideal S400x64 .f32) (p : Fin 400) (j : Fin 64) :
    k0_pay12 a b (ix2 p j) = Math.nrm (max (a (ix2 p j)) 0) (max (b (ix2 p j)) 0) := by
  pointwise [k0_pay12, k0_pay9, k0_pay10, Math.nrm]
theorem pay4_at (a : FVec Ideal S400x128 .f32) (w : Vec Ideal S128x32 .f32) (b : Vec Ideal S1x32 .f32) (p : Fin 400) (j : Fin 16) :
    k0_pay4 (k0_pay13 a w b) (ix2 p j)
      = ∑ k : Fin 128, max (a (ix2 p k)) 0 * w (ix2 k ⟨j.val, by omega⟩) + b (ix2 0 ⟨j.val, by omega⟩) := by
  pointwise [k0_pay4, k0_pay13]
theorem pay5_at (a : FVec Ideal S400x128 .f32) (w : Vec Ideal S128x32 .f32) (b : Vec Ideal S1x32 .f32) (p : Fin 400) (j : Fin 16) :
    k0_pay5 (k0_pay13 a w b) (ix2 p j)
      = ∑ k : Fin 128, max (a (ix2 p k)) 0 * w (ix2 k ⟨16 + j.val, by omega⟩) + b (ix2 0 ⟨16 + j.val, by omega⟩) := by
  pointwise [k0_pay5, k0_pay13]
theorem pay25_at (a : Vec Ideal S400x1 .i32) (p : Fin 400) (q : Fin 16) :
    k0_pay25 (F := Ideal) (k0_pay24 (F := Ideal) a) (ix2 p q)
      = FloatOps.sitofp (F := Ideal) .f32 (BitVec.setWidth 32 (IntOp.cmpi .eq (a (ix2 p 0)) (BitVec.ofNat 32 q.val))) := by
  pointwise [k0_pay25, k0_pay24]
theorem pay23_at (a0 a1 : Vec Ideal S200x10000 .f32) (h : Vec Ideal S10000x128 .f32) (w : Vec Ideal S1x128x128 .f32)
    (b : Vec Ideal S1x128x16 .f32) (p : Fin 400) (q : Fin 16) :
    k0_pay23 a0 h a1 h w b (ix2 p q)
      = Math.lp (fun q => ∑ k : Fin 128, k0_pay20 a0 h a1 h w (ix2 p k) * b (ix3 0 k q)) q := by
  pointwise [k0_pay23, Math.lp, Math.mx]
theorem pay27_at (a : FVec Ideal S400x16 .f32) (b : IVec S400x16 1) (d : Vec Ideal S400x1 .f32) (o : Vec Ideal S1x1 .f32) (z y : Fin 1) :
    k0_pay27 a b d o (ix2 z y)
      = o (ix2 z y) + ∑ p : Fin 400, (∑ q : Fin 16, k0_pay25 b (ix2 p q) * a (ix2 p q)) * d (ix2 p 0) := by
  pointwise [k0_pay27, k0_pay26]
  simp only [Finset.univ_unique, Finset.sum_singleton]
theorem pay28_at (d : Vec Ideal S400x1 .f32) (o : Vec Ideal S1x1 .f32) (z y : Fin 1) :
    k0_pay28 d o (ix2 z y) = o (ix2 z y) + ∑ p : Fin 400, d (ix2 p 0) := by
  pointwise [k0_pay28, k0_pay26]
  simp only [Finset.univ_unique, Finset.sum_singleton]
theorem pay1_at (v : FVec Ideal S400x16 .f32) (a b : FVec Ideal S400x64 .f32) (o : Vec Ideal S16x64 .f32) (q : Fin 16) (j : Fin 64) :
    k0_pay1 v (k0_pay29 a b) (k0_pay30 a b) k0_pay31 o (ix2 q j)
      = o (ix2 q j) + ∑ p : Fin 400, v (ix2 p q) * Math.ang (a (ix2 p j)) (b (ix2 p j)) := by
  pointwise [k0_pay1, k0_pay29, k0_pay30, k0_pay31, Math.ang]
theorem pay2_at (v : FVec Ideal S400x16 .f32) (o : Vec Ideal S16x64 .f32) (q : Fin 16) (j : Fin 64) :
    k0_pay2 v o (ix2 q j) = o (ix2 q j) + ∑ p : Fin 400, v (ix2 p q) := by
  pointwise [k0_pay2]
theorem pay6_at (a b : Vec Ideal S16x64 .f32) (o : Vec Ideal S1x1 .f32) (z y : Fin 1) :
    k0_pay6 a b o (ix2 z y) = o (ix2 z y) + Ideal.div
      (∑ j : Fin 64, ((∑ q : Fin 16, Ideal.cos (Ideal.div (a (ix2 q j)) (b (ix2 q j) + Math.e8)))
            * (∑ q : Fin 16, Ideal.cos (Ideal.div (a (ix2 q j)) (b (ix2 q j) + Math.e8)))
          + (∑ q : Fin 16, Ideal.sin (Ideal.div (a (ix2 q j)) (b (ix2 q j) + Math.e8)))
            * (∑ q : Fin 16, Ideal.sin (Ideal.div (a (ix2 q j)) (b (ix2 q j) + Math.e8)))) - Ideal.ofBits .f32 0x44800000#32)
      (Ideal.ofBits .f32 0x46700000#32) := by
  pointwise [k0_pay6]
theorem pay8_at (a b : Vec Ideal S1x1 .f32) (z y : Fin 1) :
    k0_pay8 a b (ix2 z y)
      = Ideal.div (0 - a (ix2 0 0)) (Ideal.div (b (ix2 0 0)) (Ideal.ofBits .f32 0x40000000#32) + Math.e8) := by
  pointwise [k0_pay8]
theorem pay15_at (z y : Fin 1) : k0_pay15 (F := Ideal) (ix2 z y) = (0 : EReal) := by pointwise [k0_pay15]
theorem pay16_at (z y : Fin 1) : k0_pay16 (F := Ideal) (ix2 z y) = (0 : EReal) := by pointwise [k0_pay16]
theorem pay17_at (z y : Fin 1) : k0_pay17 (F := Ideal) (ix2 z y) = (0 : EReal) := by pointwise [k0_pay17]
theorem pay18_at (q : Fin 16) (j : Fin 64) : k0_pay18 (F := Ideal) (ix2 q j) = (0 : EReal) := by pointwise [k0_pay18]
theorem pay19_at (q : Fin 16) (j : Fin 64) : k0_pay19 (F := Ideal) (ix2 q j) = (0 : EReal) := by pointwise [k0_pay19]

/-- The rows the block reads of a column are the block's rows. -/
theorem rows_at {e : EltTy} (t : Fin cfg0.N) (x : Vec Ideal S10000x1 e) (p : Fin 400) :
    rows (grid0.coords t) x (ix2 p 0) = x (ix2 (row t p) 0) := by
  have ho : ∀ t : Fin cfg0.N, (k0_off1 (grid0.coords t) 0) = 400 * (t.val % 25) ∧ (k0_off1 (grid0.coords t) 1) = 0 :=
    (by decide +kernel : ∀ t : Fin grid0.N, (k0_off1 (grid0.coords t) 0) = 400 * (t.val % 25) ∧ (k0_off1 (grid0.coords t) 1) = 0)
  show x _ = x _
  refine congrArg x (funext fun a => Fin.ext ?_)
  match a with
  | ⟨0, _⟩ => exact (congrArg (· + _) (ho t).1).trans (by simp [row, ix2])
  | ⟨1, _⟩ => exact (congrArg (· + _) (ho t).2).trans (by simp [ix2])

end Cert.KernelIdeal.Body

end
-- ==== Proof.Sums.lean ====
/- # What the buffers hold after each grid point, as functions of the arguments -/
module

public import proofs.«01_k».proof.Proof.Payloads

@[expose] public section

set_option maxRecDepth 16384

noncomputable section

namespace Cert.KernelIdeal.Body

open Idealize.ShloMosaic Idealize.ShloMosaic.TcCoe Idealize.ShloMosaic.Tactic
open Idealize.ShloMosaic.Pipeline (Dat Cfg Window BodyObligation cellOf)
open Cert.KernelIdeal.Gen

variable (m : (ℓ : Loc nD τ sig) → Buf (Elt Ideal) ℓ)

theorem row_eq (t : Fin cfg0.N) : row t = Math.blk t.val := rfl
theorem lay_eq (t : Fin cfg0.N) : lay t = Math.lyr t.val := by
  have := lt_of_lt_of_eq t.isLt N_0
  refine Fin.ext ?_
  show t.val / 25 = (Math.lyr t.val).val
  unfold Math.lyr
  split
  · show _ = 0; omega
  · show _ = 1; omega

/-! ## The rows -/

theorem hc0_at (c : Dev nD) (r : Fin 10000) (j : Fin 128) : hc0 m c (ix2 r j) = Math.h0 (args m c) r j := by
  unfold hc0
  pointwise [k0_pay14]
  simp only [iblk_2, iblk_3, iblk_4]
  rfl

/-- A point's rows, from the features it reads. -/
theorem conv_at (c : Dev nD) (t : Fin cfg0.N) (h : Vec Ideal S10000x128 .f32) (H : Fin 10000 → Fin 128 → EReal)
    (hH : ∀ s k, h (ix2 s k) = H s k) (p : Fin 400) (j : Fin 128) :
    k0_pay20 (iblk m c 0 t) h (iblk m c 1 t) h (iblk m c 5 t) (ix2 p j) = Math.cv (args m c) (lay t) H (row t p) j := by
  rw [pay20_at]
  unfold Math.cv
  refine Finset.sum_congr rfl fun k _ => ?_
  rw [iblk_5]
  refine congrArg (· * _) (Finset.sum_congr rfl fun s _ => ?_)
  rw [hH]
  refine congrArg (· * _) ?_
  split
  · exact iblk_0 m c t ⟨p.val, _⟩ s
  · rw [iblk_1]
    refine congrArg (fun r => (args m c).adj r s) (congrArg (row t) (Fin.ext ?_))
    show 200 + (p.val - 200) = p.val
    omega

theorem hc1_at (c : Dev nD) (r : Fin 10000) (j : Fin 128) :
    hc1 m c (ix2 r j) = max (Math.cv (args m c) 0 (Math.h0 (args m c)) r j) 0 := by
  have hr := r.isLt
  have hv : (pt (r.val / 400)).val = r.val / 400 := Nat.mod_eq_of_lt (by omega)
  refine (pay3_at (convRows m c (hc0 m c) (r.val / 400)) ⟨r.val % 400, Nat.mod_lt _ (by decide)⟩ j).trans ?_
  refine congrArg (max · 0) ((conv_at m c (pt (r.val / 400)) _ _ (hc0_at m c) _ j).trans ?_)
  have hl : lay (pt (r.val / 400)) = 0 := by
    refine Fin.ext ?_
    show (pt (r.val / 400)).val / 25 = 0
    omega
  have hw : row (pt (r.val / 400)) ⟨r.val % 400, Nat.mod_lt _ (by decide)⟩ = r := by
    refine Fin.ext ?_
    show 400 * ((pt (r.val / 400)).val % 25) + r.val % 400 = r.val
    omega
  rw [hl]
  exact congrArg (fun z => Math.cv (args m c) 0 (Math.h0 (args m c)) z j) hw

theorem feat_at (c : Dev nD) (t : Fin cfg0.N) (s : Fin 10000) (k : Fin 128) :
    feat m c t.val (ix2 s k) = Math.hh (args m c) (lay t) s k := by
  rw [lay_eq]
  unfold Math.hh Math.lyr
  by_cases h : t.val < 25
  · rw [feat_lo m c _ h, if_pos h, if_pos rfl, hc0_at]
  · rw [feat_hi m c _ (by omega), if_neg h, if_neg (by decide), pay7_at, hc1_at]

theorem nAt_at (c : Dev nD) (t : Fin cfg0.N) (p : Fin 400) (j : Fin 128) :
    nAt m c t (ix2 p j) = Math.nn (args m c) (lay t) (row t p) j :=
  conv_at m c t _ _ (feat_at m c t) p j
theorem nrAt_at (c : Dev nD) (t : Fin cfg0.N) (p : Fin 400) (j : Fin 64) :
    nrAt m c t (ix2 p j) = Math.nn (args m c) (lay t) (row t p) (Math.lo j) :=
  (pay21_at _ _ _ _ p j).trans (nAt_at m c t p _)
theorem niAt_at (c : Dev nD) (t : Fin cfg0.N) (p : Fin 400) (j : Fin 64) :
    niAt m c t (ix2 p j) = Math.nn (args m c) (lay t) (row t p) (Math.hi j) :=
  (pay22_at _ _ _ _ p j).trans (nAt_at m c t p _)

/-! ## One point's addition to each sum -/

theorem oh_at (c : Dev nD) (t : Fin cfg0.N) (p : Fin 400) (q : Fin 16) :
    k0_pay25 (F := Ideal) (k0_pay24 (F := Ideal) (rows (grid0.coords t) (iblk m c 9 t))) (ix2 p q)
      = Math.oh (args m c) (row t p) q := by
  rw [pay25_at, rows_at, iblk_9]
  rfl

theorem cmAt_at (c : Dev nD) (t : Fin cfg0.N) (old : Vec Ideal S16x64 .f32) (q : Fin 16) (j : Fin 64) :
    cmAt m c t old (ix2 q j)
      = old (ix2 q j) + ∑ p, Math.oh (args m c) (row t p) q * Math.an (args m c) (lay t) (row t p) j := by
  unfold cmAt cmStep
  rw [pay1_at]
  refine congrArg (_ + ·) (Finset.sum_congr rfl fun p _ => ?_)
  rw [oh_at]
  exact congrArg (_ * ·) (congrArg₂ Math.ang (nrAt_at m c t p j) (niAt_at m c t p j))

theorem cntAt_at (c : Dev nD) (t : Fin cfg0.N) (old : Vec Ideal S16x64 .f32) (q : Fin 16) (j : Fin 64) :
    cntAt m c t old (ix2 q j) = old (ix2 q j) + ∑ p, Math.oh (args m c) (row t p) q := by
  unfold cntAt cntStep
  rw [pay2_at]
  exact congrArg (_ + ·) (Finset.sum_congr rfl fun p _ => oh_at m c t p q)

theorem supAt_at (c : Dev nD) (t : Fin cfg0.N) (old : Vec Ideal S1x1 .f32) :
    supAt m c t old (ix2 0 0) = old (ix2 0 0) + ∑ p, Math.sr (args m c) (lay t) (row t p) := by
  unfold supAt supStep
  rw [pay27_at]
  refine congrArg (_ + ·) (Finset.sum_congr rfl fun p _ => ?_)
  rw [rows_at, iblk_10]
  refine congrArg (· * _) (Finset.sum_congr rfl fun q _ => ?_)
  rw [oh_at, pay23_at]
  refine congrArg (fun f => _ * Math.lp f q) (funext fun q => Finset.sum_congr rfl fun k _ => ?_)
  exact congrArg₂ (· * ·) (nAt_at m c t p k) (iblk_6 m c t 0 k q)

theorem mskAt_at (c : Dev nD) (t : Fin cfg0.N) (old : Vec Ideal S1x1 .f32) :
    mskAt m c t old (ix2 0 0) = old (ix2 0 0) + ∑ p, Math.mk (args m c) (row t p) := by
  unfold mskAt mskStep
  rw [pay28_at]
  refine congrArg (_ + ·) (Finset.sum_congr rfl fun p _ => ?_)
  rw [rows_at, iblk_10]

/-! ## The sums after a point -/

theorem pt_of_lt (n : ℕ) (h : n < 50) : (pt n).val = n := Nat.mod_eq_of_lt h

/-- A sum that starts at point `b` from nothing and grows at each later point. -/
theorem grow (g : ℕ → EReal) (D : ℕ → EReal) (b e : ℕ) (h0 : g b = 0 + D b) (hs : ∀ i, b + (i + 1) < e → g (b + (i + 1)) = g (b + i) + D (b + (i + 1)))
    (i : ℕ) (hi : b + i < e) : g (b + i) = ∑ k ∈ Finset.range (i + 1), D (b + k) := by
  induction i with
  | zero => rw [Finset.sum_range_one]; exact h0.trans (zero_add _)
  | succ i ih => rw [Finset.sum_range_succ, hs i hi, ih (by omega)]

theorem cmN_at (c : Dev nD) (l : Fin 2) (q : Fin 16) (j : Fin 64) :
    cmN m c (25 * l.val + 24) (ix2 q j) = Math.cm (args m c) l q j := by
  have hl := l.isLt
  have key : ∀ n, n < 50 → Math.lyr n = ⟨n / 25 % 2, Nat.mod_lt _ (by decide)⟩ := by decide
  rw [grow (fun n => cmN m c n (ix2 q j))
    (fun n => ∑ p, Math.oh (args m c) (Math.blk n p) q * Math.an (args m c) (Math.lyr n) (Math.blk n p) j) (25 * l.val) (25 * l.val + 25)
    ?_ ?_ 24 (by omega)]
  · unfold Math.cm
    rw [← Math.sum_blocks (fun r => Math.oh (args m c) r q * Math.an (args m c) l r j) (25 * l.val) (by omega)]
    refine Finset.sum_congr rfl fun i hi => Finset.sum_congr rfl fun p _ => ?_
    have hi' := Finset.mem_range.mp hi
    have e : Math.lyr (25 * l.val + i) = l := by
      rw [key _ (by omega)]; refine Fin.ext ?_; show (25 * l.val + i) / 25 % 2 = l.val; omega
    rw [e]
  · have hv := pt_of_lt (25 * l.val) (by omega)
    show cmN m c (25 * l.val) _ = _
    conv_lhs => rw [← hv]
    rw [cmN_first m c (pt (25 * l.val)) (by omega), cmAt_at, pay18_at, row_eq, lay_eq, hv]
  · intro i hi
    have hv := pt_of_lt (25 * l.val + (i + 1)) (by omega)
    show cmN m c (25 * l.val + (i + 1)) _ = cmN m c _ _ + _
    conv_lhs => rw [← hv]
    rw [cmN_next m c (pt (25 * l.val + (i + 1))) (by omega), cmAt_at, row_eq, lay_eq, hv]
    rfl

theorem cntN_at (c : Dev nD) (q : Fin 16) (j : Fin 64) : cntN m c 24 (ix2 q j) = Math.cnt (args m c) q := by
  have := grow (fun n => cntN m c n (ix2 q j)) (fun n => ∑ p, Math.oh (args m c) (Math.blk n p) q) 0 25 ?_ ?_ 24 (by omega)
  · rw [show (24 : ℕ) = 0 + 24 from rfl]
    refine this.trans ?_
    exact Math.sum_blocks (fun r => Math.oh (args m c) r q) 0 rfl
  · show cntN m c 0 _ = _
    rw [show (0 : ℕ) = (pt 0).val from rfl, cntN_zero m c (pt 0) rfl, cntAt_at, pay19_at, row_eq]
  · intro i hi
    have hv := pt_of_lt (0 + (i + 1)) (by omega)
    show cntN m c (0 + (i + 1)) _ = cntN m c _ _ + _
    conv_lhs => rw [← hv]
    rw [cntN_next m c (pt (0 + (i + 1))) (by omega) (by omega), cntAt_at, row_eq, hv]
    rfl
theorem cntN_later (c : Dev nD) (n : ℕ) : cntN m c (24 + n) = cntN m c 24 := by
  induction n with
  | zero => rfl
  | succ n ih => rw [cntN_keep m c (24 + (n + 1)) (by omega), ← ih]; rfl

theorem supN_at (c : Dev nD) :
    supN m c 49 (ix2 0 0) = ∑ r, Math.sr (args m c) 0 r + ∑ r, Math.sr (args m c) 1 r := by
  have := grow (fun n => supN m c n (ix2 0 0)) (fun n => ∑ p, Math.sr (args m c) (Math.lyr n) (Math.blk n p)) 0 50 ?_ ?_ 49 (by omega)
  · rw [show (49 : ℕ) = 0 + 49 from rfl]
    refine this.trans ?_
    rw [show (49 + 1 : ℕ) = 25 + 25 from rfl, Finset.sum_range_add]
    refine congrArg₂ (· + ·) ?_ ?_
    · refine Eq.trans (Finset.sum_congr rfl fun i hi => ?_) (Math.sum_blocks (fun r => Math.sr (args m c) 0 r) 0 rfl)
      have hi' := Finset.mem_range.mp hi
      rw [show Math.lyr (0 + i) = 0 from if_pos (by omega)]
    · refine Eq.trans (Finset.sum_congr rfl fun i hi => ?_) (Math.sum_blocks (fun r => Math.sr (args m c) 1 r) 25 rfl)
      rw [show Math.lyr (0 + (25 + i)) = 1 from if_neg (by omega), show 0 + (25 + i) = 25 + i from by omega]
  · show supN m c 0 _ = _
    refine (congrFun (supN_zero m c (pt 0) rfl) (ix2 0 0)).trans ?_
    rw [supAt_at, pay15_at, row_eq, lay_eq]
    rfl
  · intro i hi
    have hv := pt_of_lt (0 + (i + 1)) (by omega)
    show supN m c (0 + (i + 1)) _ = supN m c _ _ + _
    conv_lhs => rw [← hv]
    rw [supN_next m c (pt (0 + (i + 1))) (by omega), supAt_at, row_eq, lay_eq, hv]
    rfl

theorem mskN_at (c : Dev nD) : mskN m c 49 (ix2 0 0) = ∑ r, Math.mk (args m c) r + ∑ r, Math.mk (args m c) r := by
  have := grow (fun n => mskN m c n (ix2 0 0)) (fun n => ∑ p, Math.mk (args m c) (Math.blk n p)) 0 50 ?_ ?_ 49 (by omega)
  · rw [show (49 : ℕ) = 0 + 49 from rfl]
    refine this.trans ?_
    rw [show (49 + 1 : ℕ) = 25 + 25 from rfl, Finset.sum_range_add]
    refine congrArg₂ (· + ·) ?_ ?_
    · exact Math.sum_blocks (fun r => Math.mk (args m c) r) 0 rfl
    · refine Eq.trans (Finset.sum_congr rfl fun i hi => ?_) (Math.sum_blocks (fun r => Math.mk (args m c) r) 25 rfl)
      rw [show 0 + (25 + i) = 25 + i from by omega]
  · show mskN m c 0 _ = _
    refine (congrFun (mskN_zero m c (pt 0) rfl) (ix2 0 0)).trans ?_
    rw [mskAt_at, pay16_at, row_eq]
    rfl
  · intro i hi
    have hv := pt_of_lt (0 + (i + 1)) (by omega)
    show mskN m c (0 + (i + 1)) _ = mskN m c _ _ + _
    conv_lhs => rw [← hv]
    rw [mskN_next m c (pt (0 + (i + 1))) (by omega), mskAt_at, row_eq, hv]
    rfl

theorem sep_step (c : Dev nD) (l : Fin 2) (n : ℕ) (hn : n = 25 * l.val + 24) (o : Vec Ideal S1x1 .f32) (k : Vec Ideal S16x64 .f32)
    (hk : ∀ q j, k (ix2 q j) = Math.cnt (args m c) q) :
    k0_pay6 (cmN m c n) k o (ix2 0 0) = o (ix2 0 0) + Math.sep (args m c) l := by
  subst hn
  rw [pay6_at]
  simp only [cmN_at, hk]
  rfl

theorem sepN_run (c : Dev nD) (b : ℕ) (hb : b % 25 = 24 ∨ b = 0) (i : ℕ) (hi : b % 25 + i < 49 ∧ (b = 0 → i < 24)) : sepN m c (b + i) = sepN m c b := by
  induction i with
  | zero => rfl
  | succ i ih => rw [sepN_keep m c (b + (i + 1)) (by omega) (by omega), ← ih (by omega)]; rfl

theorem sepN_at (c : Dev nD) : sepN m c 49 (ix2 0 0) = 0 + Math.sep (args m c) 0 + Math.sep (args m c) 1 := by
  have e23 : sepN m c 23 = k0_pay17 (F := Ideal) := by
    have h := sepN_run m c 0 (Or.inr rfl) 23 (by omega)
    rw [Nat.zero_add] at h
    rw [h, sepN]
  have e24 : sepN m c 24 = k0_pay6 (cmN m c 24) (cntN m c 24) (sepN m c 23) := sepN_add m c 24 rfl
  have e48 : sepN m c 48 = sepN m c 24 := by
    have h := sepN_run m c 24 (Or.inl rfl) 24 (by omega)
    rwa [show 24 + 24 = 48 from by norm_num] at h
  have e49 : sepN m c 49 = k0_pay6 (cmN m c 49) (cntN m c 49) (sepN m c 48) := sepN_add m c 49 rfl
  have c49 : cntN m c 49 = cntN m c 24 := by
    have h := cntN_later m c 25
    rwa [show 24 + 25 = 49 from by norm_num] at h
  rw [e49, c49, sep_step m c 1 49 rfl _ _ (cntN_at m c), e48, e24, sep_step m c 0 24 rfl _ _ (cntN_at m c), e23, pay17_at]

end Cert.KernelIdeal.Body

end
-- ==== Proof.Results.lean ====
/- # What the run leaves in each result -/
module

public import proofs.«01_k».proof.Proof.Sums
public import proofs.«01_k».proof.Proof.Launch

@[expose] public section

set_option maxRecDepth 16384

noncomputable section

namespace Cert.KernelIdeal.Body

open Idealize.ShloMosaic Idealize.ShloMosaic.TcCoe Idealize.ShloMosaic.Tactic
open Idealize.ShloMosaic.Pipeline (Dat Cfg Window BodyObligation cellOf)
open Cert.KernelIdeal.Gen

variable (m : (ℓ : Loc nD τ sig) → Buf (Elt Ideal) ℓ)

/-- A row block is written back at the points of layer 1 alone, each to its own place. -/
theorem idx_11 : ∀ t : Fin cfg0.N, (cfg0.win 11).flush t = true → 25 ≤ t.val ∧ win0_11.index t = ![t.val % 25, 0] :=
  (by decide +kernel : ∀ t : Fin grid0.N, (cfg0.win 11).flush t = true → 25 ≤ t.val ∧ win0_11.index t = ![t.val % 25, 0])
theorem idx_12 : ∀ t : Fin cfg0.N, (cfg0.win 12).flush t = true → 25 ≤ t.val ∧ win0_12.index t = ![t.val % 25, 0] :=
  (by decide +kernel : ∀ t : Fin grid0.N, (cfg0.win 12).flush t = true → 25 ≤ t.val ∧ win0_12.index t = ![t.val % 25, 0])
theorem idx_13 : ∀ t : Fin cfg0.N, (cfg0.win 13).flush t = true → 25 ≤ t.val ∧ win0_13.index t = ![t.val % 25, 0] :=
  (by decide +kernel : ∀ t : Fin grid0.N, (cfg0.win 13).flush t = true → 25 ≤ t.val ∧ win0_13.index t = ![t.val % 25, 0])
theorem idx_14 : ∀ t : Fin cfg0.N, (cfg0.win 14).flush t = true → 25 ≤ t.val ∧ win0_14.index t = ![t.val % 25, 0] :=
  (by decide +kernel : ∀ t : Fin grid0.N, (cfg0.win 14).flush t = true → 25 ≤ t.val ∧ win0_14.index t = ![t.val % 25, 0])
theorem idx_15 : ∀ t : Fin cfg0.N, (cfg0.win 15).flush t = true → 25 ≤ t.val ∧ win0_15.index t = ![t.val % 25, 0] :=
  (by decide +kernel : ∀ t : Fin grid0.N, (cfg0.win 15).flush t = true → 25 ≤ t.val ∧ win0_15.index t = ![t.val % 25, 0])
theorem idx_16 : ∀ t : Fin cfg0.N, (cfg0.win 16).flush t = true → 25 ≤ t.val ∧ win0_16.index t = ![t.val % 25, 0] :=
  (by decide +kernel : ∀ t : Fin grid0.N, (cfg0.win 16).flush t = true → 25 ≤ t.val ∧ win0_16.index t = ![t.val % 25, 0])

/-- These points belong to layer 1. -/
theorem lay_one (t : Fin cfg0.N) (h : 25 ≤ t.val) : lay t = 1 := by
  rw [lay_eq]; exact if_neg (by omega)

/-- The real part of the last state, block by block the whole array. -/
theorem final_11 (c : Dev nD) : (dats m 0 c).arrAt 11 cfg0.N
    = fun i => Math.fr (args m c) (i 0) (i 1) := by
  refine (dats m 0 c).arrAt_eq_of_covers 11 _ (by decide +kernel) fun t hf y => ?_
  obtain ⟨ht, hi⟩ := idx_11 t hf
  blk_simp
  rw [after_11]
  obtain ⟨p, j, rfl⟩ : ∃ (p : Fin 400) (j : Fin 64), y = ix2 p j := ⟨y 0, y 1, eq_ix2 (n0 := 400) (n1 := 64) y⟩
  have e : (win0_11.blk t).view.emb (ix2 p j) = ix2 (row t p) j := by
    unfold row
    blk_ext [hi]
  rw [e]
  refine (pay9_at (nrAt m c t) p j).trans ?_
  rw [nrAt_at, lay_one t ht]
  rfl

/-- Its imaginary part. -/
theorem final_12 (c : Dev nD) : (dats m 0 c).arrAt 12 cfg0.N
    = fun i => Math.fi (args m c) (i 0) (i 1) := by
  refine (dats m 0 c).arrAt_eq_of_covers 12 _ (by decide +kernel) fun t hf y => ?_
  obtain ⟨ht, hi⟩ := idx_12 t hf
  blk_simp
  rw [after_12]
  obtain ⟨p, j, rfl⟩ : ∃ (p : Fin 400) (j : Fin 64), y = ix2 p j := ⟨y 0, y 1, eq_ix2 (n0 := 400) (n1 := 64) y⟩
  have e : (win0_12.blk t).view.emb (ix2 p j) = ix2 (row t p) j := by
    unfold row
    blk_ext [hi]
  rw [e]
  refine (pay10_at (niAt m c t) p j).trans ?_
  rw [niAt_at, lay_one t ht]
  rfl

/-- Its angle. -/
theorem final_13 (c : Dev nD) : (dats m 0 c).arrAt 13 cfg0.N
    = fun i => Math.ang (Math.fr (args m c) (i 0) (i 1)) (Math.fi (args m c) (i 0) (i 1)) := by
  refine (dats m 0 c).arrAt_eq_of_covers 13 _ (by decide +kernel) fun t hf y => ?_
  obtain ⟨ht, hi⟩ := idx_13 t hf
  blk_simp
  rw [after_13]
  obtain ⟨p, j, rfl⟩ : ∃ (p : Fin 400) (j : Fin 64), y = ix2 p j := ⟨y 0, y 1, eq_ix2 (n0 := 400) (n1 := 64) y⟩
  have e : (win0_13.blk t).view.emb (ix2 p j) = ix2 (row t p) j := by
    unfold row
    blk_ext [hi]
  rw [e]
  refine (pay11_at (nrAt m c t) (niAt m c t) p j).trans ?_
  rw [nrAt_at, niAt_at, lay_one t ht]
  rfl

/-- Its norm. -/
theorem final_14 (c : Dev nD) : (dats m 0 c).arrAt 14 cfg0.N
    = fun i => Math.nrm (Math.fr (args m c) (i 0) (i 1)) (Math.fi (args m c) (i 0) (i 1)) := by
  refine (dats m 0 c).arrAt_eq_of_covers 14 _ (by decide +kernel) fun t hf y => ?_
  obtain ⟨ht, hi⟩ := idx_14 t hf
  blk_simp
  rw [after_14]
  obtain ⟨p, j, rfl⟩ : ∃ (p : Fin 400) (j : Fin 64), y = ix2 p j := ⟨y 0, y 1, eq_ix2 (n0 := 400) (n1 := 64) y⟩
  have e : (win0_14.blk t).view.emb (ix2 p j) = ix2 (row t p) j := by
    unfold row
    blk_ext [hi]
  rw [e]
  refine (pay12_at (nrAt m c t) (niAt m c t) p j).trans ?_
  rw [nrAt_at, niAt_at, lay_one t ht]
  rfl

/-- The real part of the readout. -/
theorem final_15 (c : Dev nD) : (dats m 0 c).arrAt 15 cfg0.N
    = fun i => Math.outr (args m c) (i 0) (i 1) := by
  refine (dats m 0 c).arrAt_eq_of_covers 15 _ (by decide +kernel) fun t hf y => ?_
  obtain ⟨ht, hi⟩ := idx_15 t hf
  blk_simp
  rw [after_15]
  obtain ⟨p, j, rfl⟩ : ∃ (p : Fin 400) (j : Fin 16), y = ix2 p j := ⟨y 0, y 1, eq_ix2 (n0 := 400) (n1 := 16) y⟩
  have e : (win0_15.blk t).view.emb (ix2 p j) = ix2 (row t p) j := by
    unfold row
    blk_ext [hi]
  rw [e]
  refine (pay4_at (nAt m c t) (iblk m c 7 t) (iblk m c 8 t) p j).trans ?_
  simp only [iblk_7, iblk_8, nAt_at, lay_one t ht]
  rfl

/-- Its imaginary part. -/
theorem final_16 (c : Dev nD) : (dats m 0 c).arrAt 16 cfg0.N
    = fun i => Math.outi (args m c) (i 0) (i 1) := by
  refine (dats m 0 c).arrAt_eq_of_covers 16 _ (by decide +kernel) fun t hf y => ?_
  obtain ⟨ht, hi⟩ := idx_16 t hf
  blk_simp
  rw [after_16]
  obtain ⟨p, j, rfl⟩ : ∃ (p : Fin 400) (j : Fin 16), y = ix2 p j := ⟨y 0, y 1, eq_ix2 (n0 := 400) (n1 := 16) y⟩
  have e : (win0_16.blk t).view.emb (ix2 p j) = ix2 (row t p) j := by
    unfold row
    blk_ext [hi]
  rw [e]
  refine (pay5_at (nAt m c t) (iblk m c 7 t) (iblk m c 8 t) p j).trans ?_
  simp only [iblk_7, iblk_8, nAt_at, lay_one t ht]
  rfl

/-- The separation, written at the last point alone. -/
theorem final_17 (c : Dev nD) : (dats m 0 c).arrAt 17 cfg0.N = fun i => 0 + Math.sep (args m c) 0 + Math.sep (args m c) 1 := by
  refine (dats m 0 c).arrAt_eq_of_after_last 17 (pt 49) (by decide +kernel) _ fun y => ?_
  blk_simp
  rw [after_17]
  have ey : y = ix2 (n0 := 1) (n1 := 1) 0 0 := (eq_ix2 (n0 := 1) (n1 := 1) y).trans (congrArg₂ ix2 (Subsingleton.elim _ _) (Subsingleton.elim _ _))
  rw [ey]
  exact sepN_at m c
/-- The supervised loss, written at the last point alone. -/
theorem final_18 (c : Dev nD) : (dats m 0 c).arrAt 18 cfg0.N = fun i => Math.sup (args m c) := by
  refine (dats m 0 c).arrAt_eq_of_after_last 18 (pt 49) (by decide +kernel) _ fun y => ?_
  blk_simp
  rw [after_18]
  have ey : y = ix2 (n0 := 1) (n1 := 1) 0 0 := (eq_ix2 (n0 := 1) (n1 := 1) y).trans (congrArg₂ ix2 (Subsingleton.elim _ _) (Subsingleton.elim _ _))
  rw [ey, pay8_at]
  exact congrArg₂ (fun a b => Ideal.div (0 - a) (Ideal.div b (Ideal.ofBits .f32 0x40000000#32) + Math.e8)) (supN_at m c) (mskN_at m c)

end Cert.KernelIdeal.Body

end
-- ==== Proof.Ends.lean ====
/- # What the kernel's run ends with, result by result -/
module

public import proofs.«01_k».proof.Proof.Results
public import proofs.«01_k».proof.Proof.Frames

@[expose] public section

set_option maxRecDepth 16384

noncomputable section

namespace Cert.KernelIdeal.Body

open Idealize.ShloMosaic Idealize.ShloMosaic.TcCoe Idealize.SL.Sem Idealize.ShloMosaic.ValueIdx
open Cert.KernelIdeal.Gen

variable (m : (ℓ : Loc nD τ sig) → Buf (Elt Ideal) ℓ)

/-- After the grid each window's array holds what its write-backs left. -/
theorem arrays_at (c : Dev nD) (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr_shared spec0 c (V0 m c) (fun w => (dats m 0 c).arrAt w cfg0.N)
    ((dats m 0 c).arrAt_sharedIn sharedIn0 (V0 m c) (A_eq m c) cfg0.N) w

/-- The separation is read off its one-cell array. -/
theorem tail_sep (c : Dev nD) : Pipeline.afterTail₀ cfgs (dats m) 0 (V0 m) [hostOps1] c main_v15
    = fun _ => 0 + Math.sep (args m c) 0 + Math.sep (args m c) 1 := by
  funext i
  unfold Pipeline.afterTail₀ hostOps1
  after_reads_at
  exact (congrFun ((arrays_at m c 17).trans (final_17 m c)) _).trans (congrArg (· + Math.sep (args m c) 1) (zero_add _))

/-- The supervised loss is read off its one-cell array. -/
theorem tail_sup (c : Dev nD) : Pipeline.afterTail₀ cfgs (dats m) 0 (V0 m) [hostOps1] c main_v16
    = fun _ => Math.sup (args m c) := by
  funext i
  unfold Pipeline.afterTail₀ hostOps1
  after_reads_at
  exact congrFun ((arrays_at m c 18).trans (final_18 m c)) _

/-- The eight results of the kernel's run. -/
def Ends (r : PUnit × MemSt nD τ sig (Elt Ideal)) (c : Dev nD) : Prop :=
  r.2.mem ((c.tc : Thread nD τ).loc main_v14_0) = (fun i => Math.fr (args m c) (i 0) (i 1))
  ∧ r.2.mem ((c.tc : Thread nD τ).loc main_v14_1) = (fun i => Math.fi (args m c) (i 0) (i 1))
  ∧ r.2.mem ((c.tc : Thread nD τ).loc main_v14_4) = (fun i => Math.outr (args m c) (i 0) (i 1))
  ∧ r.2.mem ((c.tc : Thread nD τ).loc main_v14_5) = (fun i => Math.outi (args m c) (i 0) (i 1))
  ∧ r.2.mem ((c.tc : Thread nD τ).loc main_v14_2) = (fun i => Math.ang (Math.fr (args m c) (i 0) (i 1)) (Math.fi (args m c) (i 0) (i 1)))
  ∧ r.2.mem ((c.tc : Thread nD τ).loc main_v14_3) = (fun i => Math.nrm (Math.fr (args m c) (i 0) (i 1)) (Math.fi (args m c) (i 0) (i 1)))
  ∧ r.2.mem ((c.tc : Thread nD τ).loc main_v15) = (fun _ => 0 + Math.sep (args m c) 0 + Math.sep (args m c) 1)
  ∧ r.2.mem ((c.tc : Thread nD τ).loc main_v16) = (fun _ => Math.sup (args m c))

/-- The kernel ends with these eight results, from any launch. -/
theorem run_ends (ρ : Dev nD → PrngReg) :
    θ_run defs (onTc (τ := τ) (main (F := Ideal))) ⟨m, fun _ => 0, ρ⟩ fun r => ∀ c : Dev nD, Ends m r c :=
  (θ_run defs _ _).mono (fun _ h c =>
    ⟨((h c).1 11).trans (final_11 m c), ((h c).1 12).trans (final_12 m c), ((h c).1 15).trans (final_15 m c),
      ((h c).1 16).trans (final_16 m c), ((h c).1 13).trans (final_13 m c), ((h c).1 14).trans (final_14 m c),
      ((h c).2 main_v15 (Pipeline.mem_restRefs_of main_v15 (by decide) (by decide))).trans (tail_sep m c),
      ((h c).2 main_v16 (Pipeline.mem_restRefs_of main_v16 (by decide) (by decide))).trans (tail_sup m c)⟩) (run_main m ρ)

end Cert.KernelIdeal.Body

end
-- ==== Proof.Plain.lean ====
/- # The functions the plain program computes, on plain arrays of extended reals -/
module

public import proofs.«01_k».proof.Proof.Math

@[expose] public section

noncomputable section

namespace Cert.Math

open Idealize.ShloMosaic

variable (A : Args)

/-- The first features' real part. -/
def f0 (r : Fin 10000) (j : Fin 64) : EReal := max (∑ k, A.x r k * A.wr k j + A.br j) 0
/-- The first features' imaginary part. -/
def g0 (r : Fin 10000) (j : Fin 64) : EReal := max (∑ k, A.x r k * A.wi k j + A.bi j) 0
/-- A layer's real part from the features `f + i g`. -/
def pr (l : Fin 2) (f g : Fin 10000 → Fin 64 → EReal) (r : Fin 10000) (j : Fin 64) : EReal :=
  ∑ k, (∑ s, A.adj r s * f s k) * A.cr l k j - ∑ k, (∑ s, A.adj r s * g s k) * A.ci l k j
/-- A layer's imaginary part from the features `f + i g`. -/
def pj (l : Fin 2) (f g : Fin 10000 → Fin 64 → EReal) (r : Fin 10000) (j : Fin 64) : EReal :=
  ∑ k, (∑ s, A.adj r s * f s k) * A.ci l k j + ∑ k, (∑ s, A.adj r s * g s k) * A.cr l k j
/-- The features each layer reads, real part. -/
def fe (l : Fin 2) (r : Fin 10000) (j : Fin 64) : EReal := if l = 0 then f0 A r j else max (pr A 0 (f0 A) (g0 A) r j) 0
/-- The features each layer reads, imaginary part. -/
def ge (l : Fin 2) (r : Fin 10000) (j : Fin 64) : EReal := if l = 0 then g0 A r j else max (pj A 0 (f0 A) (g0 A) r j) 0
/-- A layer's real part. -/
def nr (l : Fin 2) : Fin 10000 → Fin 64 → EReal := pr A l (fe A l) (ge A l)
/-- A layer's imaginary part. -/
def ni (l : Fin 2) : Fin 10000 → Fin 64 → EReal := pj A l (fe A l) (ge A l)

/-- A layer's class logits. -/
def rlg (l : Fin 2) (r : Fin 10000) (q : Fin 16) : EReal :=
  ∑ k, nr A l r k * A.cc l (lo k) q + ∑ k, ni A l r k * A.cc l (hi k) q
/-- The shift of a row of sixteen. -/
def rmx (f : Fin 16 → EReal) : EReal := max (Ideal.ofBits .f32 0xFF800000#32) (mx f)
/-- The logarithm of the softmax, the shift taken off before the logarithm. -/
def rlp (f : Fin 16 → EReal) (q : Fin 16) : EReal := (f q - rmx f) - Ideal.log (∑ k, Ideal.exp (f k - rmx f))
/-- One entry of the one-hot table of the labels. -/
def roh (r : Fin 10000) (q : Fin 16) : EReal :=
  FloatOps.uitofp (F := Ideal) .f32 (IntOp.cmpi .eq (A.lab r) (BitVec.ofNat 32 q.val))
/-- One row's part of the supervised sum. -/
def rsr (l : Fin 2) (r : Fin 10000) : EReal := (∑ q, roh A r q * rlp (rlg A l r) q) * mk A r
/-- One layer's supervised loss. -/
def rsup (l : Fin 2) : EReal := Ideal.div (-∑ r, rsr A l r) (∑ r, mk A r + e8)
/-- A layer's angles. -/
def ran (l : Fin 2) (r : Fin 10000) (j : Fin 64) : EReal := ang (nr A l r j) (ni A l r j)
/-- The mean angle of a class. -/
def rmean (l : Fin 2) (q : Fin 16) (j : Fin 64) : EReal := Ideal.div (∑ r, roh A r q * ran A l r j) (∑ r, roh A r q + e8)
/-- One off the diagonal, zero on it. -/
def off (p q : Fin 16) : EReal :=
  1 - FloatOps.uitofp (F := Ideal) .f32 (IntOp.cmpi .eq (IntOp.addi (BitVec.ofNat 32 p.val) 0#32) (BitVec.ofNat 32 q.val))
/-- One layer's separation. -/
def rsep (l : Fin 2) : EReal :=
  Ideal.div (∑ p, ∑ q, ∑ j, Ideal.cos (rmean A l p j - rmean A l q j) * off p q)
    ((∑ p, ∑ q, off p q) * Ideal.ofBits .f32 0x42800000#32)
/-- The last map's real part. -/
def routr (r : Fin 10000) (j : Fin 16) : EReal :=
  ∑ k, max (nr A 1 r k) 0 * A.vr k j - ∑ k, max (ni A 1 r k) 0 * A.vi k j + A.dr j
/-- The last map's imaginary part. -/
def routi (r : Fin 10000) (j : Fin 16) : EReal :=
  ∑ k, max (nr A 1 r k) 0 * A.vi k j + ∑ k, max (ni A 1 r k) 0 * A.vr k j + A.di j

end Cert.Math

end
-- ==== Proof.Reference.lean ====
/- # The plain program's values, at an index -/
module

public import proofs.«01_k».proof.Proof.Plain
public import proofs.«01_k».proof.Proof.Gen.ReferenceIdeal.Run
public import Idealize.ShloMosaic.Lib.Pipeline.ValueKit
public import Idealize.ShloMosaic.Lib.StableHlo.ReadAt
public import Idealize.ShloMosaic.Lib.Pointwise

@[expose] public section

set_option maxRecDepth 16384

noncomputable section

namespace Cert.ReferenceIdeal.Body

open Idealize.ShloMosaic Idealize.ShloMosaic.TcCoe Idealize.ShloMosaic.Tactic Idealize.ShloMosaic.StableHlo
open Cert.ReferenceIdeal Cert.ReferenceIdeal.Gen Cert.ReferenceIdeal.Value

variable (V0 : Valuation τ sig (Elt Ideal))

/-- The arguments the plain program was launched with. -/
def rargs : Math.Args where
  x r k := V0 (Proc.devRef .tc main_arg0) (ix2 r k)
  adj r s := V0 (Proc.devRef .tc main_arg1) (ix2 r s)
  wr k j := V0 (Proc.devRef .tc main_arg2) (ix2 k j)
  wi k j := V0 (Proc.devRef .tc main_arg3) (ix2 k j)
  br j := V0 (Proc.devRef .tc main_arg4) (ix1 j)
  bi j := V0 (Proc.devRef .tc main_arg5) (ix1 j)
  cr l k j := V0 (Proc.devRef .tc main_arg6) (ix3 l k j)
  ci l k j := V0 (Proc.devRef .tc main_arg7) (ix3 l k j)
  cc l k j := V0 (Proc.devRef .tc main_arg8) (ix3 l k j)
  vr k j := V0 (Proc.devRef .tc main_arg9) (ix2 k j)
  vi k j := V0 (Proc.devRef .tc main_arg10) (ix2 k j)
  dr j := V0 (Proc.devRef .tc main_arg11) (ix1 j)
  di j := V0 (Proc.devRef .tc main_arg12) (ix1 j)
  lab r := V0 (Proc.devRef .tc main_arg13) (ix1 r)
  msk r := V0 (Proc.devRef .tc main_arg14) (ix1 r)

theorem v23_at (r : Fin 10000) (k : Fin 64) :
    res_main_v23 V0 (ix2 r k) = ∑ s, (rargs V0).adj r s * Math.f0 (rargs V0) s k := by
  pointwise [res_main_v23]
  rfl
theorem v24_at (r : Fin 10000) (k : Fin 64) :
    res_main_v24 V0 (ix2 r k) = ∑ s, (rargs V0).adj r s * Math.g0 (rargs V0) s k := by
  pointwise [res_main_v24]
  rfl
theorem v31_at (r : Fin 10000) (j : Fin 64) : res_main_v31 V0 (ix2 r j) = Math.nr (rargs V0) 0 r j := by
  pointwise [res_main_v31]
  simp only [v23_at, v24_at]
  rfl
theorem v38_at (r : Fin 10000) (j : Fin 64) : res_main_v38 V0 (ix2 r j) = Math.ni (rargs V0) 0 r j := by
  pointwise [res_main_v38]
  simp only [v23_at, v24_at]
  rfl
theorem v87_at (r : Fin 10000) (k : Fin 64) :
    res_main_v87 V0 (ix2 r k) = ∑ s, (rargs V0).adj r s * Math.fe (rargs V0) 1 s k := by
  pointwise [res_main_v87]
  simp only [v31_at]
  rfl
theorem v88_at (r : Fin 10000) (k : Fin 64) :
    res_main_v88 V0 (ix2 r k) = ∑ s, (rargs V0).adj r s * Math.ge (rargs V0) 1 s k := by
  pointwise [res_main_v88]
  simp only [v38_at]
  rfl
theorem v95_at (r : Fin 10000) (j : Fin 64) : res_main_v95 V0 (ix2 r j) = Math.nr (rargs V0) 1 r j := by
  pointwise [res_main_v95]
  simp only [v87_at, v88_at]
  rfl
theorem v102_at (r : Fin 10000) (j : Fin 64) : res_main_v102 V0 (ix2 r j) = Math.ni (rargs V0) 1 r j := by
  pointwise [res_main_v102]
  simp only [v87_at, v88_at]
  rfl
theorem v42_at (r : Fin 10000) (q : Fin 16) : res_main_v42 V0 (ix2 r q) = Math.rlg (rargs V0) 0 r q := by
  pointwise [res_main_v42]
  simp only [v31_at, v38_at]
  rfl
theorem v106_at (r : Fin 10000) (q : Fin 16) : res_main_v106 V0 (ix2 r q) = Math.rlg (rargs V0) 1 r q := by
  pointwise [res_main_v106]
  simp only [v95_at, v102_at]
  rfl
theorem v12_at (r : Fin 10000) (q : Fin 16) : res_main_v12 V0 (ix2 r q) = Math.roh (rargs V0) r q := by
  pointwise [res_main_v12]
  rfl
theorem v13_at (q : Fin 16) : res_main_v13 V0 (ix1 q) = ∑ r, Math.roh (rargs V0) r q := by
  pointwise [res_main_v13]
  simp only [v12_at]
theorem v14_at (r : Fin 10000) : res_main_v14 V0 (ix1 r) = Math.mk (rargs V0) r := by
  pointwise [res_main_v14]
  rfl
theorem v22_at (p q : Fin 16) : res_main_v22 V0 (ix2 p q) = Math.off p q := by
  pointwise [res_main_v22]
  rfl
/-- The greatest entry of a row, as the reduction over the second axis folds it. -/
theorem fold_at (v : FVec Ideal S10000x16 .f32) (r : Fin 10000) (b : EReal) :
    (Finset.univ.filter fun i => reducesTo_S10000x16_S10000_d1.drop i = ix1 r).fold max b v
      = (Finset.univ : Finset (Fin 16)).fold max b (fun q => v (ix2 r q)) :=
  Shape.ReducesTo.fold_fiber_r2_a1 reducesTo_S10000x16_S10000_d1 (ix1 r) max b v
theorem zero_at : (id (constant S_ .f32 0x00000000#32) : FVec Ideal S_ .f32) ix0 = 0 := Ideal.ofBits_zero_f32
theorem one_at : (id (constant S_ .f32 0x3F800000#32) : FVec Ideal S_ .f32) ix0 = 1 := Ideal.ofBits_one_f32
theorem call1_at (r : Fin 10000) (q : Fin 16) :
    res_main_call1_v5 V0 (ix2 r q) = Math.rlg (rargs V0) 0 r q - Math.rmx (Math.rlg (rargs V0) 0 r) := by
  pointwise [res_main_call1_v5]
  refine congrArg₂ (fun x y : EReal => x - y) (v42_at V0 r q) (congrArg (max _) ((fold_at (res_main_v42 V0) r _).trans ?_))
  simp only [v42_at]
  rfl
theorem call5_at (r : Fin 10000) (q : Fin 16) :
    res_main_call5_v5 V0 (ix2 r q) = Math.rlg (rargs V0) 1 r q - Math.rmx (Math.rlg (rargs V0) 1 r) := by
  pointwise [res_main_call5_v5]
  refine congrArg₂ (fun x y : EReal => x - y) (v106_at V0 r q) (congrArg (max _) ((fold_at (res_main_v106 V0) r _).trans ?_))
  simp only [v106_at]
  rfl
theorem v67_at (q : Fin 16) (j : Fin 64) : res_main_v67 V0 (ix2 q j) = Math.rmean (rargs V0) 0 q j := by
  pointwise [res_main_v67, res_main_v56]
  simp only [v31_at, v38_at, v12_at, v13_at, zero_at, one_at]
  rfl
theorem v131_at (q : Fin 16) (j : Fin 64) : res_main_v131 V0 (ix2 q j) = Math.rmean (rargs V0) 1 q j := by
  pointwise [res_main_v131, res_main_v120]
  simp only [v95_at, v102_at, v12_at, v13_at, zero_at, one_at]
  rfl

/-! ## The results -/

theorem v148_at (r : Fin 10000) (j : Fin 64) : res_main_v148 V0 (ix2 r j) = max (Math.nr (rargs V0) 1 r j) 0 := by
  pointwise [res_main_v148]
  rw [v95_at]
theorem v150_at (r : Fin 10000) (j : Fin 64) : res_main_v150 V0 (ix2 r j) = max (Math.ni (rargs V0) 1 r j) 0 := by
  pointwise [res_main_v150]
  rw [v102_at]

/-- What the plain program leaves in each result, as `run` states it. -/
abbrev out2 : FVec Ideal S10000x16 .f32 := addf (subf (Host.dotGeneral (φ₁ := .f32) (φ₂ := .f32) dot_S10000x64_S64x16_S10000x16_1_0_0_1_n_n none (res_main_v148 V0) (V0 (Proc.devRef .tc main_arg9))) (Host.dotGeneral (φ₁ := .f32) (φ₂ := .f32) dot_S10000x64_S64x16_S10000x16_1_0_0_1_n_n none (res_main_v150 V0) (V0 (Proc.devRef .tc main_arg10)))) (broadcastInDim S10000x16 ![0, 1] bcast_S1x16_S10000x16_0_1 (broadcastInDim S1x16 ![1] bcast_S16_S1x16_1 (V0 (Proc.devRef .tc main_arg11))))
abbrev out3 : FVec Ideal S10000x16 .f32 := addf (addf (Host.dotGeneral (φ₁ := .f32) (φ₂ := .f32) dot_S10000x64_S64x16_S10000x16_1_0_0_1_n_n none (res_main_v148 V0) (V0 (Proc.devRef .tc main_arg10))) (Host.dotGeneral (φ₁ := .f32) (φ₂ := .f32) dot_S10000x64_S64x16_S10000x16_1_0_0_1_n_n none (res_main_v150 V0) (V0 (Proc.devRef .tc main_arg9)))) (broadcastInDim S10000x16 ![0, 1] bcast_S1x16_S10000x16_0_1 (broadcastInDim S1x16 ![1] bcast_S16_S1x16_1 (V0 (Proc.devRef .tc main_arg12))))
abbrev out4 : FVec Ideal S10000x64 .f32 := select (res_main_v155 V0) (Host.atan2 (select (res_main_v155 V0) (res_main_v150 V0) (broadcastInDim S10000x64 ![] bcast_S_S10000x64 (id (constant S_ .f32 0x00000000#32)))) (select (res_main_v155 V0) (res_main_v148 V0) (broadcastInDim S10000x64 ![] bcast_S_S10000x64 (id (constant S_ .f32 0x3F800000#32))))) (broadcastInDim S10000x64 ![] bcast_S_S10000x64 (id (constant S_ .f32 0x00000000#32)))
abbrev out5 : FVec Ideal S10000x64 .f32 := Host.sqrt (addf (addf (mulf (res_main_v148 V0) (res_main_v148 V0)) (mulf (res_main_v150 V0) (res_main_v150 V0))) (broadcastInDim S10000x64 ![] bcast_S_S10000x64 (constant S_ .f32 0x2B8CBCCC#32)))
/-- One layer's separation from its class means. -/
abbrev sepOf (v : FVec Ideal S16x64 .f32) (w : FVec Ideal S16x16 .f32) : FVec Ideal S_ .f32 := Host.divf (Host.reduceAdd (mulf (Host.cos (subf (broadcastInDim S16x16x64 ![0, 1, 2] bcast_S16x1x64_S16x16x64_0_1_2 (broadcastInDim S16x1x64 ![0, 2] bcast_S16x64_S16x1x64_0_2 v)) (broadcastInDim S16x16x64 ![0, 1, 2] bcast_S1x16x64_S16x16x64_0_1_2 (broadcastInDim S1x16x64 ![1, 2] bcast_S16x64_S1x16x64_1_2 v)))) (broadcastInDim S16x16x64 ![0, 1, 2] bcast_S16x16x1_S16x16x64_0_1_2 (broadcastInDim S16x16x1 ![0, 1] bcast_S16x16_S16x16x1_0_1 w))) (constant S_ .f32 0x00000000#32) reducesTo_S16x16x64_S_d0_1_2 h_S_) (mulf (Host.reduceAdd w (constant S_ .f32 0x00000000#32) reducesTo_S16x16_S_d0_1 h_S_) (constant S_ .f32 0x42800000#32))
/-- One layer's supervised loss from its shifted logits. -/
abbrev supOf (o l : FVec Ideal S10000x16 .f32) (k : FVec Ideal S10000 .f32) : FVec Ideal S_ .f32 := Host.divf (Host.negf (Host.reduceAdd (mulf (Host.reduceAdd (mulf o (subf l (broadcastInDim S10000x16 ![0, 1] bcast_S10000x1_S10000x16_0_1 (Host.log (broadcastInDim S10000x1 ![0] bcast_S10000_S10000x1_0 (Host.reduceAdd (Host.exp l) (constant S_ .f32 0x00000000#32) reducesTo_S10000x16_S10000_d1 h_S_)))))) (constant S_ .f32 0x00000000#32) reducesTo_S10000x16_S10000_d1 h_S_) k) (constant S_ .f32 0x00000000#32) reducesTo_S10000_S_d0 h_S_)) (addf (Host.reduceAdd k (constant S_ .f32 0x00000000#32) reducesTo_S10000_S_d0 h_S_) (constant S_ .f32 0x322BCC77#32))
abbrev out6 : FVec Ideal S_ .f32 := addf (addf (constant S_ .f32 0x00000000#32) (sepOf (res_main_v67 V0) (res_main_v22 V0))) (sepOf (res_main_v131 V0) (res_main_v22 V0))
abbrev out7 : FVec Ideal S_ .f32 := addf (addf (constant S_ .f32 0x00000000#32) (supOf (res_main_v12 V0) (res_main_call1_v5 V0) (res_main_v14 V0))) (supOf (res_main_v12 V0) (res_main_call5_v5 V0) (res_main_v14 V0))

theorem out2_at (r : Fin 10000) (j : Fin 16) : out2 V0 (ix2 r j) = Math.routr (rargs V0) r j := by
  pointwise [out2]
  simp only [v148_at, v150_at]
  rfl
theorem out3_at (r : Fin 10000) (j : Fin 16) : out3 V0 (ix2 r j) = Math.routi (rargs V0) r j := by
  pointwise [out3]
  simp only [v148_at, v150_at]
  rfl
theorem out4_at (r : Fin 10000) (j : Fin 64) :
    out4 V0 (ix2 r j) = Math.ang (max (Math.nr (rargs V0) 1 r j) 0) (max (Math.ni (rargs V0) 1 r j) 0) := by
  pointwise [out4, res_main_v155]
  simp only [v148_at, v150_at, zero_at, one_at]
  rfl
theorem out5_at (r : Fin 10000) (j : Fin 64) :
    out5 V0 (ix2 r j) = Math.nrm (max (Math.nr (rargs V0) 1 r j) 0) (max (Math.ni (rargs V0) 1 r j) 0) := by
  pointwise [out5]
  simp only [v148_at, v150_at]
  rfl
theorem sepOf_at (v : FVec Ideal S16x64 .f32) (w : FVec Ideal S16x16 .f32) (i : S_.Idx) :
    sepOf v w i = Ideal.div (∑ p : Fin 16, ∑ q : Fin 16, ∑ j : Fin 64, Ideal.cos (v (ix2 p j) - v (ix2 q j)) * w (ix2 p q))
      ((∑ p : Fin 16, ∑ q : Fin 16, w (ix2 p q)) * Ideal.ofBits .f32 0x42800000#32) := by
  pointwise [sepOf]
theorem supOf_at (o l : FVec Ideal S10000x16 .f32) (k : FVec Ideal S10000 .f32) (i : S_.Idx) :
    supOf o l k i = Ideal.div (-∑ r : Fin 10000, (∑ q : Fin 16, o (ix2 r q) * (l (ix2 r q) - Ideal.log (∑ q : Fin 16, Ideal.exp (l (ix2 r q))))) * k (ix1 r))
      (∑ r : Fin 10000, k (ix1 r) + Math.e8) := by
  pointwise [supOf]
theorem out6_at (i : S_.Idx) : out6 V0 i = 0 + Math.rsep (rargs V0) 0 + Math.rsep (rargs V0) 1 := by
  show Ideal.ofBits .f32 0x00000000#32 + sepOf (res_main_v67 V0) (res_main_v22 V0) i + sepOf (res_main_v131 V0) (res_main_v22 V0) i = _
  rw [sepOf_at, sepOf_at, Ideal.ofBits_zero_f32]
  simp only [v67_at, v131_at, v22_at]
  rfl
theorem out7_at (i : S_.Idx) : out7 V0 i = 0 + Math.rsup (rargs V0) 0 + Math.rsup (rargs V0) 1 := by
  show Ideal.ofBits .f32 0x00000000#32 + supOf (res_main_v12 V0) (res_main_call1_v5 V0) (res_main_v14 V0) i
    + supOf (res_main_v12 V0) (res_main_call5_v5 V0) (res_main_v14 V0) i = _
  rw [supOf_at, supOf_at, Ideal.ofBits_zero_f32]
  simp only [v12_at, v14_at, call1_at, call5_at]
  rfl

end Cert.ReferenceIdeal.Body

end
-- ==== Proof.Real.lean ====
/- # The extended reals that are real: what keeps a value among them -/
module

public import proofs.«01_k».proof.Proof.Plain

@[expose] public section

noncomputable section

namespace Cert.Math

open Idealize.ShloMosaic

/-- The value is a real number. -/
def IsR (x : EReal) : Prop := ∃ r : ℝ, x = (r : EReal)

theorem isR_coe (r : ℝ) : IsR (r : EReal) := ⟨r, rfl⟩
theorem isR_zero : IsR 0 := ⟨0, rfl⟩
theorem isR_one : IsR 1 := ⟨1, rfl⟩
theorem IsR.add {x y : EReal} : IsR x → IsR y → IsR (x + y) := by
  rintro ⟨a, rfl⟩ ⟨b, rfl⟩
  exact ⟨a + b, (EReal.coe_add a b).symm⟩
theorem IsR.mul {x y : EReal} : IsR x → IsR y → IsR (x * y) := by
  rintro ⟨a, rfl⟩ ⟨b, rfl⟩
  exact ⟨a * b, (EReal.coe_mul a b).symm⟩
theorem IsR.neg {x : EReal} : IsR x → IsR (-x) := by
  rintro ⟨a, rfl⟩
  exact ⟨-a, (EReal.coe_neg a).symm⟩
theorem IsR.sub {x y : EReal} : IsR x → IsR y → IsR (x - y) := by
  rintro ⟨a, rfl⟩ ⟨b, rfl⟩
  exact ⟨a - b, (EReal.coe_sub a b).symm⟩
theorem IsR.max {x y : EReal} (hx : IsR x) (hy : IsR y) : IsR (max x y) :=
  (max_choice x y).elim (fun e => by rw [e]; exact hx) (fun e => by rw [e]; exact hy)
theorem IsR.ite {p : Prop} [Decidable p] {x y : EReal} (hx : IsR x) (hy : IsR y) : IsR (if p then x else y) := by
  split
  · exact hx
  · exact hy
theorem coe_sum {ι : Type} (s : Finset ι) (g : ι → ℝ) : ((∑ i ∈ s, g i : ℝ) : EReal) = ∑ i ∈ s, (g i : EReal) := by
  classical
  induction s using Finset.induction_on with
  | empty => rfl
  | insert a s h ih => rw [Finset.sum_insert h, Finset.sum_insert h, EReal.coe_add, ih]
/-- A family of reals is the cast of one. -/
theorem isR_choose {ι : Type} {f : ι → EReal} (h : ∀ i, IsR (f i)) : ∃ g : ι → ℝ, f = fun i => (g i : EReal) :=
  ⟨fun i => (h i).choose, funext fun i => (h i).choose_spec⟩
theorem isR_sum {ι : Type} {s : Finset ι} {f : ι → EReal} (h : ∀ i, IsR (f i)) : IsR (∑ i ∈ s, f i) := by
  obtain ⟨g, rfl⟩ := isR_choose h
  exact ⟨_, (coe_sum s g).symm⟩
/-- A sum of negatives of reals is the negative of the sum. -/
theorem sum_neg {ι : Type} {s : Finset ι} {f : ι → EReal} (h : ∀ i, IsR (f i)) : ∑ i ∈ s, -f i = -∑ i ∈ s, f i := by
  obtain ⟨g, rfl⟩ := isR_choose h
  rw [← coe_sum, ← EReal.coe_neg, ← Finset.sum_neg_distrib, coe_sum]
  exact Finset.sum_congr rfl fun i _ => (EReal.coe_neg _).symm

theorem IsR.exp {x : EReal} : IsR x → IsR (Ideal.exp x) := by
  rintro ⟨a, rfl⟩
  exact ⟨Real.exp a, rfl⟩
theorem IsR.cos {x : EReal} : IsR x → IsR (Ideal.cos x) := by
  rintro ⟨a, rfl⟩
  exact ⟨Real.cos a, rfl⟩
theorem IsR.sin {x : EReal} : IsR x → IsR (Ideal.sin x) := by
  rintro ⟨a, rfl⟩
  exact ⟨Real.sin a, rfl⟩
theorem IsR.atan2 {x y : EReal} : IsR x → IsR y → IsR (Ideal.atan2 x y) := by
  rintro ⟨a, rfl⟩ ⟨b, rfl⟩
  exact ⟨_, rfl⟩
theorem IsR.div {x : EReal} {d : ℝ} (hx : IsR x) (hd : d ≠ 0) : IsR (Ideal.div x d) := by
  rw [Ideal.div_coe hd]
  exact hx.mul (isR_coe _)
/-- The logarithm of a sum of exponentials of reals is a real. -/
theorem isR_lse {f : Fin 16 → EReal} (h : ∀ q, IsR (f q)) : IsR (Ideal.log (∑ q, Ideal.exp (f q))) := by
  obtain ⟨g, rfl⟩ := isR_choose h
  have e : ∑ q : Fin 16, Ideal.exp ((g q : ℝ) : EReal) = ((∑ q, Real.exp (g q) : ℝ) : EReal) := (coe_sum _ _).symm
  rw [e]
  have hp : 0 < ∑ q, Real.exp (g q) := Finset.sum_pos (fun q _ => Real.exp_pos _) Finset.univ_nonempty
  rw [Ideal.log_coe, if_neg (not_le.mpr hp)]
  exact isR_coe _

/-! ## The printed words -/

theorem word_bot : Ideal.ofBits .f32 0xFF800000#32 = ⊥ := by simp [Ideal.ofBits, Ideal.ieee]
theorem word_top : Ideal.ofBits .f32 0x7F800000#32 = ⊤ := by simp [Ideal.ofBits, Ideal.ieee]
theorem word_two : Ideal.ofBits .f32 0x40000000#32 = ((2 : ℝ) : EReal) := by
  simp [Ideal.ofBits, Ideal.ieee, -EReal.coe_mul]; norm_num
theorem word_64 : Ideal.ofBits .f32 0x42800000#32 = ((64 : ℝ) : EReal) := by
  simp [Ideal.ofBits, Ideal.ieee, -EReal.coe_mul]; norm_num
theorem word_1024 : Ideal.ofBits .f32 0x44800000#32 = ((1024 : ℝ) : EReal) := by
  simp [Ideal.ofBits, Ideal.ieee, -EReal.coe_mul]; norm_num
theorem word_15360 : Ideal.ofBits .f32 0x46700000#32 = ((15360 : ℝ) : EReal) := by
  simp [Ideal.ofBits, Ideal.ieee, -EReal.coe_mul]; norm_num
theorem word_e8 : ∃ e : ℝ, 0 < e ∧ e8 = (e : EReal) := by
  refine ⟨11258999 * (2 : ℝ) ^ (-50 : ℤ), by positivity, ?_⟩
  simp [e8, Ideal.ofBits, Ideal.ieee, -EReal.coe_mul]; try norm_num

/-! ## The greatest of sixteen -/

theorem isR_mx {f : Fin 16 → EReal} (h : ∀ q, IsR (f q)) : IsR (mx f) := by
  unfold mx
  rw [word_bot]
  have hs : ∀ s : Finset (Fin 16), s.fold max ⊥ f = ⊥ ∨ IsR (s.fold max ⊥ f) := by
    intro s
    induction s using Finset.induction_on with
    | empty => exact Or.inl rfl
    | insert a s ha ih =>
      rw [Finset.fold_insert ha]
      rcases ih with ih | ih
      · rw [ih, max_eq_left bot_le]; exact Or.inr (h a)
      · exact Or.inr ((h a).max ih)
  rcases hs Finset.univ with e | e
  · exfalso
    have hle : f 0 ≤ Finset.univ.fold max ⊥ f := (Finset.le_fold_max (f 0)).mpr (Or.inr ⟨0, Finset.mem_univ _, le_rfl⟩)
    rw [e] at hle
    obtain ⟨r, hr⟩ := h 0
    rw [hr] at hle
    exact absurd (le_bot_iff.mp hle) (EReal.coe_ne_bot r)
  · exact e

/-- The two ways of taking the shift and the logarithm off a real row agree. -/
theorem lp_eq {f : Fin 16 → EReal} (h : ∀ q, IsR (f q)) (q : Fin 16) : lp f q = rlp f q := by
  have hm : rmx f = mx f := by unfold rmx; rw [word_bot]; exact max_eq_right bot_le
  unfold lp rlp
  rw [hm]
  obtain ⟨M, hM⟩ := isR_mx h
  obtain ⟨L, hL⟩ := isR_lse (f := fun k => f k - mx f) (fun k => (h k).sub (isR_mx h))
  obtain ⟨a, ha⟩ := h q
  rw [hL, hM, ha, ← EReal.coe_add, ← EReal.coe_sub, ← EReal.coe_sub, ← EReal.coe_sub]
  exact congrArg _ (by ring)
theorem isR_lp {f : Fin 16 → EReal} (h : ∀ q, IsR (f q)) (q : Fin 16) : IsR (lp f q) :=
  (h q).sub ((isR_mx h).add (isR_lse fun k => (h k).sub (isR_mx h)))

theorem isR_ang {a b : EReal} (ha : IsR a) (hb : IsR b) : IsR (ang a b) := by
  unfold ang
  exact ((hb.ite isR_zero).atan2 (ha.ite isR_one)).ite isR_zero

/-- A single bit is one number, read signed from a wider word or unsigned at once. -/
theorem bit_eq : ∀ b : BitVec 1,
    FloatOps.sitofp (F := Ideal) .f32 (BitVec.setWidth 32 b) = FloatOps.uitofp (F := Ideal) .f32 b := by
  intro b
  show (((BitVec.setWidth 32 b).toInt : ℝ) : EReal) = ((b.toNat : ℝ) : EReal)
  have hb : (BitVec.setWidth 32 b).toInt = (b.toNat : ℤ) := by revert b; decide
  rw [hb]
  norm_cast

/-! ## The separation: the sum of squares is the sum of the cosines of the differences -/

/-- One off the diagonal, zero on it, as reals. -/
theorem off_eq (p q : Fin 16) : off p q = ((if p = q then 0 else 1 : ℝ) : EReal) := by
  unfold off
  show 1 - (((IntOp.cmpi .eq (IntOp.addi (BitVec.ofNat 32 p.val) 0#32) (BitVec.ofNat 32 q.val)).toNat : ℝ) : EReal) = _
  have h : (IntOp.cmpi .eq (IntOp.addi (BitVec.ofNat 32 p.val) 0#32) (BitVec.ofNat 32 q.val)).toNat = if p = q then 1 else 0 := by
    revert p q; decide
  rw [h, ← EReal.coe_one, ← EReal.coe_sub]
  refine congrArg _ ?_
  split <;> simp

theorem cos_sum (θ : Fin 16 → Fin 64 → ℝ) :
    ∑ p, ∑ q, ∑ j, Real.cos (θ p j - θ q j) * (if p = q then 0 else 1)
      = ∑ j, ((∑ q, Real.cos (θ q j)) * (∑ q, Real.cos (θ q j)) + (∑ q, Real.sin (θ q j)) * (∑ q, Real.sin (θ q j))) - 1024 := by
  have h1 : ∀ p q : Fin 16, ∑ j, Real.cos (θ p j - θ q j) * (if p = q then 0 else 1)
      = ∑ j, Real.cos (θ p j - θ q j) - if p = q then 64 else 0 := by
    intro p q
    split
    · subst_vars
      simp
    · simp
  simp only [h1, Finset.sum_sub_distrib]
  have h2 : ∑ p : Fin 16, ∑ q : Fin 16, (if p = q then 64 else 0 : ℝ) = 1024 := by
    simp; norm_num
  rw [h2]
  congr 1
  have h3 : ∀ p : Fin 16, ∑ q, ∑ j, Real.cos (θ p j - θ q j) = ∑ j, ∑ q, Real.cos (θ p j - θ q j) := fun p => Finset.sum_comm
  simp only [h3]
  rw [Finset.sum_comm]
  refine Finset.sum_congr rfl fun j _ => ?_
  simp only [Real.cos_sub, Finset.sum_add_distrib, Finset.sum_mul_sum]

theorem off_sum : ∑ p, ∑ q, off p q = ((240 : ℝ) : EReal) := by
  have h : ∀ p q, off p q = ((fun p q => if p = q then 0 else 1 : Fin 16 → Fin 16 → ℝ) p q : EReal) := off_eq
  simp only [h, ← coe_sum]
  refine congrArg _ ?_
  have h1 : ∀ p q : Fin 16, (if p = q then 0 else 1 : ℝ) = 1 - if p = q then 1 else 0 := by
    intro p q; split <;> simp
  simp only [h1, Finset.sum_sub_distrib]
  simp
  norm_num

/-- The two readings of the separation agree at real angles. -/
theorem sep_eq {a : Fin 16 → Fin 64 → EReal} (h : ∀ q j, IsR (a q j)) :
    Ideal.div
      (∑ j, ((∑ q, Ideal.cos (a q j)) * (∑ q, Ideal.cos (a q j)) + (∑ q, Ideal.sin (a q j)) * (∑ q, Ideal.sin (a q j)))
        - Ideal.ofBits .f32 0x44800000#32) (Ideal.ofBits .f32 0x46700000#32)
      = Ideal.div (∑ p, ∑ q, ∑ j, Ideal.cos (a p j - a q j) * off p q)
          ((∑ p, ∑ q, off p q) * Ideal.ofBits .f32 0x42800000#32) := by
  obtain ⟨θ, hθ⟩ : ∃ θ : Fin 16 → Fin 64 → ℝ, ∀ q j, a q j = (θ q j : EReal) :=
    ⟨fun q j => (h q j).choose, fun q j => (h q j).choose_spec⟩
  rw [off_sum, word_64, word_1024, word_15360, ← EReal.coe_mul]
  have hn : (240 * 64 : ℝ) = 15360 := by norm_num
  rw [hn]
  congr 1
  have hc : ∀ x : ℝ, Ideal.cos (x : EReal) = ((Real.cos x : ℝ) : EReal) := fun _ => rfl
  have hs : ∀ x : ℝ, Ideal.sin (x : EReal) = ((Real.sin x : ℝ) : EReal) := fun _ => rfl
  simp only [hθ, off_eq, ← EReal.coe_sub, hc, hs, ← EReal.coe_mul, ← coe_sum, ← EReal.coe_add]
  exact congrArg _ (cos_sum θ).symm

end Cert.Math

end
-- ==== Proof.Equal.lean ====
/- # On real inputs the kernel's functions are the plain program's -/
module

public import proofs.«01_k».proof.Proof.Real

@[expose] public section

noncomputable section

namespace Cert.Math

open Idealize.ShloMosaic

variable {A : Args}

/-- The ten arrays of floats the values rest on hold reals. -/
structure Args.Real (A : Args) : Prop where
  x : ∀ r k, IsR (A.x r k)
  adj : ∀ r s, IsR (A.adj r s)
  wr : ∀ k j, IsR (A.wr k j)
  wi : ∀ k j, IsR (A.wi k j)
  br : ∀ j, IsR (A.br j)
  bi : ∀ j, IsR (A.bi j)
  cr : ∀ l k j, IsR (A.cr l k j)
  ci : ∀ l k j, IsR (A.ci l k j)
  cc : ∀ l k j, IsR (A.cc l k j)
  vi : ∀ k j, IsR (A.vi k j)

/-- A sum over the 128 columns is the sum over both halves. -/
theorem sum_halves (f : Fin 128 → EReal) : ∑ k, f k = ∑ k, f (lo k) + ∑ k, f (hi k) :=
  Fin.sum_univ_add (a := 64) (b := 64) f

/-! ## The block matrices, by halves -/

theorem hi_not (k : Fin 64) : ¬(hi k).val < 64 := by show ¬64 + k.val < 64; omega
theorem hi_sub (k : Fin 64) (h : (hi k).val - 64 < 64) : (⟨(hi k).val - 64, h⟩ : Fin 64) = k := Fin.ext (Nat.add_sub_cancel_left 64 k.val)
theorem w0_lo (k : Fin 128) (j : Fin 64) : w0 A k (lo j) = A.wr k j := dif_pos j.isLt
theorem w0_hi (k : Fin 128) (j : Fin 64) : w0 A k (hi j) = A.wi k j := by
  unfold w0; rw [dif_neg (hi_not j), hi_sub]
theorem b0_lo (j : Fin 64) : b0 A (lo j) = A.br j := dif_pos j.isLt
theorem b0_hi (j : Fin 64) : b0 A (hi j) = A.bi j := by
  unfold b0; rw [dif_neg (hi_not j), hi_sub]
theorem ms_ll (l : Fin 2) (k j : Fin 64) : ms A l (lo k) (lo j) = A.cr l k j := by
  unfold ms; rw [dif_pos k.isLt, dif_pos j.isLt]
theorem ms_lh (l : Fin 2) (k j : Fin 64) : ms A l (lo k) (hi j) = A.ci l k j := by
  unfold ms; rw [dif_pos k.isLt, dif_neg (hi_not j), hi_sub]
theorem ms_hl (l : Fin 2) (k j : Fin 64) : ms A l (hi k) (lo j) = -A.ci l k j := by
  unfold ms; rw [dif_neg (hi_not k), dif_pos j.isLt, hi_sub]
theorem ms_hh (l : Fin 2) (k j : Fin 64) : ms A l (hi k) (hi j) = A.cr l k j := by
  unfold ms; rw [dif_neg (hi_not k), dif_neg (hi_not j), hi_sub, hi_sub]
theorem hi_sub' (j : Fin 16) (h : 16 + j.val - 16 < 16) : (⟨16 + j.val - 16, h⟩ : Fin 16) = j := Fin.ext (Nat.add_sub_cancel_left 16 j.val)
theorem mo_ll (k : Fin 64) (j : Fin 16) (h : j.val < 32) : mo A (lo k) ⟨j.val, h⟩ = A.vr k j := by
  unfold mo; rw [dif_pos k.isLt, dif_pos j.isLt]
theorem mo_lh (k : Fin 64) (j : Fin 16) (h : 16 + j.val < 32) : mo A (lo k) ⟨16 + j.val, h⟩ = A.vi k j := by
  unfold mo; rw [dif_pos k.isLt, dif_neg (Nat.not_lt.mpr (Nat.le_add_right 16 j.val))]
  exact congrArg _ (hi_sub' j _)
theorem mo_hl (k : Fin 64) (j : Fin 16) (h : j.val < 32) : mo A (hi k) ⟨j.val, h⟩ = -A.vi k j := by
  unfold mo; rw [dif_neg (hi_not k), dif_pos j.isLt, hi_sub]
theorem mo_hh (k : Fin 64) (j : Fin 16) (h : 16 + j.val < 32) : mo A (hi k) ⟨16 + j.val, h⟩ = A.vr k j := by
  unfold mo; rw [dif_neg (hi_not k), dif_neg (Nat.not_lt.mpr (Nat.le_add_right 16 j.val)), hi_sub]
  exact congrArg _ (hi_sub' j _)

/-! ## The layers -/

/-- The real half of a layer's block product, on real features. -/
theorem cv_lo (hA : A.Real) (l : Fin 2) (H : Fin 10000 → Fin 128 → EReal) (hH : ∀ r k, IsR (H r k)) (r : Fin 10000) (j : Fin 64) :
    cv A l H r (lo j) = pr A l (fun s k => H s (lo k)) (fun s k => H s (hi k)) r j := by
  unfold cv pr
  rw [sum_halves]
  simp only [ms_ll, ms_hl, mul_neg]
  rw [sum_neg fun k => (isR_sum fun s => (hA.adj r s).mul (hH s (hi k))).mul (hA.ci l k j), sub_eq_add_neg]
theorem cv_hi (l : Fin 2) (H : Fin 10000 → Fin 128 → EReal) (r : Fin 10000) (j : Fin 64) :
    cv A l H r (hi j) = pj A l (fun s k => H s (lo k)) (fun s k => H s (hi k)) r j := by
  unfold cv pj
  rw [sum_halves]
  simp only [ms_lh, ms_hh]
theorem h0_lo (r : Fin 10000) (j : Fin 64) : h0 A r (lo j) = f0 A r j := by
  unfold h0 f0
  simp only [w0_lo, b0_lo]
theorem h0_hi (r : Fin 10000) (j : Fin 64) : h0 A r (hi j) = g0 A r j := by
  unfold h0 g0
  simp only [w0_hi, b0_hi]

theorem isR_f0 (hA : A.Real) (r : Fin 10000) (j : Fin 64) : IsR (f0 A r j) :=
  ((isR_sum fun k => (hA.x r k).mul (hA.wr k j)).add (hA.br j)).max isR_zero
theorem isR_g0 (hA : A.Real) (r : Fin 10000) (j : Fin 64) : IsR (g0 A r j) :=
  ((isR_sum fun k => (hA.x r k).mul (hA.wi k j)).add (hA.bi j)).max isR_zero
section Layer
variable {f g : Fin 10000 → Fin 64 → EReal}
theorem isR_pr (hA : A.Real) (hf : ∀ r k, IsR (f r k)) (hg : ∀ r k, IsR (g r k)) (l : Fin 2) (r : Fin 10000) (j : Fin 64) :
    IsR (pr A l f g r j) :=
  (isR_sum fun k => (isR_sum fun s => (hA.adj r s).mul (hf s k)).mul (hA.cr l k j)).sub
    (isR_sum fun k => (isR_sum fun s => (hA.adj r s).mul (hg s k)).mul (hA.ci l k j))
theorem isR_pj (hA : A.Real) (hf : ∀ r k, IsR (f r k)) (hg : ∀ r k, IsR (g r k)) (l : Fin 2) (r : Fin 10000) (j : Fin 64) :
    IsR (pj A l f g r j) :=
  (isR_sum fun k => (isR_sum fun s => (hA.adj r s).mul (hf s k)).mul (hA.ci l k j)).add
    (isR_sum fun k => (isR_sum fun s => (hA.adj r s).mul (hg s k)).mul (hA.cr l k j))
end Layer
theorem isR_fe (hA : A.Real) (l : Fin 2) (r : Fin 10000) (j : Fin 64) : IsR (fe A l r j) :=
  IsR.ite (isR_f0 hA r j) ((isR_pr hA (isR_f0 hA) (isR_g0 hA) 0 r j).max isR_zero)
theorem isR_ge (hA : A.Real) (l : Fin 2) (r : Fin 10000) (j : Fin 64) : IsR (ge A l r j) :=
  IsR.ite (isR_g0 hA r j) ((isR_pj hA (isR_f0 hA) (isR_g0 hA) 0 r j).max isR_zero)
theorem isR_nr (hA : A.Real) (l : Fin 2) (r : Fin 10000) (j : Fin 64) : IsR (nr A l r j) :=
  isR_pr hA (isR_fe hA l) (isR_ge hA l) l r j
theorem isR_ni (hA : A.Real) (l : Fin 2) (r : Fin 10000) (j : Fin 64) : IsR (ni A l r j) :=
  isR_pj hA (isR_fe hA l) (isR_ge hA l) l r j

/-- A column is in one of the halves. -/
theorem half (k : Fin 128) : (∃ j, k = lo j) ∨ ∃ j, k = hi j := by
  rcases Nat.lt_or_ge k.val 64 with h | h
  · exact Or.inl ⟨⟨k.val, h⟩, rfl⟩
  · exact Or.inr ⟨⟨k.val - 64, by omega⟩, Fin.ext (by show k.val = 64 + (k.val - 64); omega)⟩
theorem isR_h0 (hA : A.Real) (r : Fin 10000) (k : Fin 128) : IsR (h0 A r k) := by
  rcases half k with ⟨j, rfl⟩ | ⟨j, rfl⟩
  · rw [h0_lo]; exact isR_f0 hA r j
  · rw [h0_hi]; exact isR_g0 hA r j
theorem cv0_lo (hA : A.Real) (r : Fin 10000) (j : Fin 64) : cv A 0 (h0 A) r (lo j) = pr A 0 (f0 A) (g0 A) r j := by
  rw [cv_lo hA 0 (h0 A) (isR_h0 hA)]
  simp only [h0_lo, h0_hi]
theorem cv0_hi (r : Fin 10000) (j : Fin 64) : cv A 0 (h0 A) r (hi j) = pj A 0 (f0 A) (g0 A) r j := by
  rw [cv_hi]
  simp only [h0_lo, h0_hi]
theorem hh_lo (hA : A.Real) (l : Fin 2) (r : Fin 10000) (j : Fin 64) : hh A l r (lo j) = fe A l r j := by
  unfold hh fe
  rw [h0_lo, cv0_lo hA]
theorem hh_hi (l : Fin 2) (r : Fin 10000) (j : Fin 64) : hh A l r (hi j) = ge A l r j := by
  unfold hh ge
  rw [h0_hi, cv0_hi]
theorem isR_hh (hA : A.Real) (l : Fin 2) (r : Fin 10000) (k : Fin 128) : IsR (hh A l r k) := by
  rcases half k with ⟨j, rfl⟩ | ⟨j, rfl⟩
  · rw [hh_lo hA]; exact isR_fe hA l r j
  · rw [hh_hi]; exact isR_ge hA l r j
theorem nn_lo (hA : A.Real) (l : Fin 2) (r : Fin 10000) (j : Fin 64) : nn A l r (lo j) = nr A l r j := by
  unfold nn nr
  rw [cv_lo hA l (hh A l) (isR_hh hA l)]
  simp only [hh_lo hA, hh_hi]
theorem nn_hi (hA : A.Real) (l : Fin 2) (r : Fin 10000) (j : Fin 64) : nn A l r (hi j) = ni A l r j := by
  unfold nn ni
  rw [cv_hi]
  simp only [hh_lo hA, hh_hi]

/-! ## The results -/

theorem fr_eq (hA : A.Real) (r : Fin 10000) (j : Fin 64) : fr A r j = max (nr A 1 r j) 0 := by unfold fr; rw [nn_lo hA]
theorem fi_eq (hA : A.Real) (r : Fin 10000) (j : Fin 64) : fi A r j = max (ni A 1 r j) 0 := by unfold fi; rw [nn_hi hA]
theorem outr_eq (hA : A.Real) (r : Fin 10000) (j : Fin 16) : outr A r j = routr A r j := by
  unfold outr out routr
  rw [sum_halves]
  simp only [nn_lo hA, nn_hi hA, mo_ll, mo_hl, mul_neg]
  rw [sum_neg fun k => ((isR_ni hA 1 r k).max isR_zero).mul (hA.vi k j)]
  have hb : bo A ⟨j.val, by omega⟩ = A.dr j := dif_pos j.isLt
  rw [hb, sub_eq_add_neg]
theorem outi_eq (hA : A.Real) (r : Fin 10000) (j : Fin 16) : outi A r j = routi A r j := by
  unfold outi out routi
  rw [sum_halves]
  simp only [nn_lo hA, nn_hi hA, mo_lh, mo_hh]
  have hb : bo A ⟨16 + j.val, by omega⟩ = A.di j := by
    unfold bo
    rw [dif_neg (Nat.not_lt.mpr (Nat.le_add_right 16 j.val))]
    exact congrArg _ (hi_sub' j _)
  rw [hb]

theorem lg_eq (hA : A.Real) (l : Fin 2) (r : Fin 10000) (q : Fin 16) : lg A l r q = rlg A l r q := by
  unfold lg rlg
  rw [sum_halves]
  simp only [nn_lo hA, nn_hi hA]
theorem isR_rlg (hA : A.Real) (l : Fin 2) (r : Fin 10000) (q : Fin 16) : IsR (rlg A l r q) :=
  (isR_sum fun k => (isR_nr hA l r k).mul (hA.cc l (lo k) q)).add (isR_sum fun k => (isR_ni hA l r k).mul (hA.cc l (hi k) q))
theorem oh_eq (r : Fin 10000) (q : Fin 16) : oh A r q = roh A r q := bit_eq _
/-- A one-hot entry is a real that is not negative. -/
theorem roh_real (r : Fin 10000) (q : Fin 16) : ∃ x : ℝ, 0 ≤ x ∧ roh A r q = (x : EReal) := ⟨_, Nat.cast_nonneg _, rfl⟩
/-- A mask's number is a real that is not negative. -/
theorem mk_real (r : Fin 10000) : ∃ x : ℝ, 0 ≤ x ∧ mk A r = (x : EReal) := ⟨_, Nat.cast_nonneg _, rfl⟩
/-- So is a sum of such numbers. -/
theorem sum_real {f : Fin 10000 → EReal} (h : ∀ r, ∃ x : ℝ, 0 ≤ x ∧ f r = (x : EReal)) :
    ∃ x : ℝ, 0 ≤ x ∧ ∑ r, f r = (x : EReal) := by
  refine ⟨∑ r, (h r).choose, Finset.sum_nonneg fun r _ => (h r).choose_spec.1, ?_⟩
  rw [coe_sum]
  exact Finset.sum_congr rfl fun r _ => (h r).choose_spec.2

theorem sr_eq (hA : A.Real) (l : Fin 2) (r : Fin 10000) : sr A l r = rsr A l r := by
  have hl : lg A l r = rlg A l r := funext (lg_eq hA l r)
  unfold sr rsr
  rw [hl]
  simp only [oh_eq, lp_eq (isR_rlg hA l r)]
theorem isR_rsr (hA : A.Real) (l : Fin 2) (r : Fin 10000) : IsR (rsr A l r) := by
  obtain ⟨k, _, hk⟩ := mk_real (A := A) r
  refine IsR.mul (isR_sum fun q => IsR.mul ?_ ?_) (hk ▸ isR_coe k)
  · obtain ⟨o, _, ho⟩ := roh_real (A := A) r q
    exact ho ▸ isR_coe o
  · rw [← lp_eq (isR_rlg hA l r)]; exact isR_lp (isR_rlg hA l r) q

theorem sup_eq (hA : A.Real) : sup A = 0 + rsup A 0 + rsup A 1 := by
  unfold sup rsup
  simp only [sr_eq hA]
  obtain ⟨s0, h0⟩ : IsR (∑ r, rsr A 0 r) := isR_sum fun r => isR_rsr hA 0 r
  obtain ⟨s1, h1⟩ : IsR (∑ r, rsr A 1 r) := isR_sum fun r => isR_rsr hA 1 r
  obtain ⟨k, hk0, hk⟩ := sum_real (mk_real (A := A))
  obtain ⟨e, he0, he⟩ := word_e8
  rw [h0, h1, hk, he, word_two, Ideal.div_coe (by norm_num : (2 : ℝ) ≠ 0), zero_add, zero_sub]
  simp only [← EReal.coe_add, ← EReal.coe_mul, ← EReal.coe_neg]
  have hd : k + e ≠ 0 := (by positivity : 0 < k + e).ne'
  have hd' : (k + k) * (1 / 2) + e ≠ 0 := by
    have : (k + k) * (1 / 2) + e = k + e := by ring
    rw [this]; exact hd
  rw [Ideal.div_coe hd, Ideal.div_coe hd, Ideal.div_coe hd']
  simp only [← EReal.coe_add, ← EReal.coe_mul]
  refine congrArg _ ?_
  have : (k + k) * (1 / 2) + e = k + e := by ring
  rw [this]
  ring

theorem mean_eq (hA : A.Real) (l : Fin 2) (q : Fin 16) (j : Fin 64) : mean A l q j = rmean A l q j := by
  unfold mean rmean cm cnt an ran
  simp only [oh_eq, nn_lo hA, nn_hi hA]
theorem isR_rmean (hA : A.Real) (l : Fin 2) (q : Fin 16) (j : Fin 64) : IsR (rmean A l q j) := by
  unfold rmean
  obtain ⟨k, hk0, hk⟩ := sum_real fun r => roh_real (A := A) r q
  obtain ⟨e, he0, he⟩ := word_e8
  rw [hk, he, ← EReal.coe_add]
  refine IsR.div (isR_sum fun r => IsR.mul ?_ (isR_ang (isR_nr hA l r j) (isR_ni hA l r j))) (by positivity : 0 < k + e).ne'
  obtain ⟨o, _, ho⟩ := roh_real (A := A) r q
  exact ho ▸ isR_coe o
theorem sepl_eq (hA : A.Real) (l : Fin 2) : sep A l = rsep A l := by
  unfold sep rsep
  simp only [mean_eq hA]
  exact sep_eq (isR_rmean hA l)

end Cert.Math

end
-- ==== Proof.Finite.lean ====
/- # What the precondition says: ten arrays hold reals -/
module

public import proofs.«01_k».proof.Proof.Equal
public import proofs.«01_k».proof.Proof.Inputs
public import proofs.«01_k».proof.Defs
public import Idealize.ShloMosaic.Lib.ReduceAll

@[expose] public section

noncomputable section

namespace Cert.Finite

open Idealize.ShloMosaic Idealize.ShloMosaic.TcCoe

/-- The side conditions the precondition states. -/
theorem facts : Cert.Pre_finite_inputs.Facts where
  bcast_S_S10000x128 := by decide
  reducesTo_S10000x128_S_d0_1 := by decide
  h_S_ := by decide
  bcast_S_S10000x10000 := by decide
  reducesTo_S10000x10000_S_d0_1 := by decide
  bcast_S_S128x64 := by decide
  reducesTo_S128x64_S_d0_1 := by decide
  bcast_S_S64 := by decide
  reducesTo_S64_S_d0 := by decide
  bcast_S_S2x64x64 := by decide
  reducesTo_S2x64x64_S_d0_1_2 := by decide
  bcast_S_S2x128x16 := by decide
  reducesTo_S2x128x16_S_d0_1_2 := by decide
  bcast_S_S64x16 := by decide
  reducesTo_S64x16_S_d0_1 := by decide

/-- An extended real below the top in absolute value is a real. -/
theorem isR_of_abs {x : EReal} (h : max x (-x) < ⊤) : Math.IsR x := by
  induction x using EReal.rec with
  | bot => exact absurd h (by simp)
  | coe r => exact ⟨r, rfl⟩
  | top => exact absurd h (by simp)

theorem one_scalar : Subsingleton (⟨0, ![]⟩ : Shape).Idx := ⟨fun _ _ => funext fun a => a.elim0⟩

/-- One array's test: every entry compares below the infinity in absolute value. -/
theorem isR_of_test {s : Shape} {axes : List (Fin s.rank)} (x : FVec Ideal s .f32) (hb : (⟨0, ![]⟩ : Shape).BroadcastsInDim s ![])
    (hr : s.ReducesTo axes ⟨0, ![]⟩) (hu : 0 < (⟨0, ![]⟩ : Shape).numel) (i : (⟨0, ![]⟩ : Shape).Idx)
    (h : Host.reduce IntOp.andi (cmpf .olt (Host.absf x) (broadcastInDim s ![] hb (constant (F := Ideal) ⟨0, ![]⟩ .f32 0x7F800000#32)))
      (constantI ⟨0, ![]⟩ 1 1#1) hr hu i = 1#1) (j : s.Idx) : Math.IsR (x j) := by
  haveI := one_scalar
  have e := Host.reduce_andi_all _ _ hr hu i h j
  have e' : Ideal.cmp .olt (max (x j) (-(x j))) (Ideal.ofBits .f32 0x7F800000#32) = 1#1 := e
  rw [Math.word_top] at e'
  refine isR_of_abs ?_
  by_contra hn
  have hz : Ideal.cmp .olt (max (x j) (-(x j))) ⊤ = 0#1 := by
    show BitVec.ofBool (decide (max (x j) (-(x j)) < ⊤)) = 0#1
    rw [decide_eq_false hn]; rfl
  rw [hz] at e'
  exact absurd e' (by decide)

/-- Two tests hold together. -/
theorem both {i : (⟨0, ![]⟩ : Shape).Idx} {a b : IVec ⟨0, ![]⟩ 1} (h : andi a b i = 1#1) : a i = 1#1 ∧ b i = 1#1 := by
  have h' : IntOp.andi (a i) (b i) = 1#1 := h
  revert h'
  generalize a i = u
  generalize b i = v
  revert u v
  decide

open Cert.KernelIdeal Cert.KernelIdeal.Body

/-- The precondition, read: the ten arrays the values rest on hold reals. -/
theorem args_real [hK : Cert.KernelIdeal.Facts] (m : (ℓ : Loc nD τ sig) → Buf (Elt Ideal) ℓ)
    (h : Cert.Pre_KernelIdeal_finite_inputs (hPre_finite_inputs := facts) m) (c : Dev nD) : (args m c).Real := by
  haveI := facts
  have h0 := congrFun (h c) ValueIdx.ix0
  obtain ⟨h0, h10⟩ := both h0
  obtain ⟨h0, h8⟩ := both h0
  obtain ⟨h0, h7⟩ := both h0
  obtain ⟨h0, h6⟩ := both h0
  obtain ⟨h0, h5⟩ := both h0
  obtain ⟨h0, h4⟩ := both h0
  obtain ⟨h0, h3⟩ := both h0
  obtain ⟨h0, h2⟩ := both h0
  obtain ⟨h0, h1⟩ := both h0
  exact
    { x := fun r k => isR_of_test _ _ _ _ _ h0 _
      adj := fun r k => isR_of_test _ _ _ _ _ h1 _
      wr := fun r k => isR_of_test _ _ _ _ _ h2 _
      wi := fun r k => isR_of_test _ _ _ _ _ h3 _
      br := fun k => isR_of_test _ _ _ _ _ h4 _
      bi := fun k => isR_of_test _ _ _ _ _ h5 _
      cr := fun l r k => isR_of_test _ _ _ _ _ h6 _
      ci := fun l r k => isR_of_test _ _ _ _ _ h7 _
      cc := fun l r k => isR_of_test _ _ _ _ _ h8 _
      vi := fun r k => isR_of_test _ _ _ _ _ h10 _ }

end Cert.Finite

end
-- ==== Proof.Values.lean ====
/- # The two programs end with equal results -/
module

public import proofs.«01_k».proof.Proof.Ends
public import proofs.«01_k».proof.Proof.Reference
public import proofs.«01_k».proof.Proof.Finite

@[expose] public section

set_option maxRecDepth 16384

noncomputable section

namespace Cert.Proof

open Idealize.ShloMosaic Idealize.ShloMosaic.TcCoe Idealize.SL.Sem
open Idealize.ShloMosaic.StableHlo (launchContents)
open Cert.KernelIdeal.Body (args Ends run_ends)
open Cert.ReferenceIdeal.Body (rargs out2 out3 out4 out5 out6 out7 v148_at v150_at out2_at out3_at out4_at out5_at out6_at out7_at)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- Two programs launched with equal arguments read the same mathematical arguments. -/
theorem args_agree (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    : rargs (launchContents m' c) = args m c := by
  unfold rargs args
  rw [Math.Args.mk.injEq]
  exact ⟨funext fun r => funext fun k => congrFun h0 (ix2 r k),
    funext fun r => funext fun k => congrFun h1 (ix2 r k),
    funext fun r => funext fun k => congrFun h2 (ix2 r k),
    funext fun r => funext fun k => congrFun h3 (ix2 r k),
    funext fun r => congrFun h4 (ix1 r),
    funext fun r => congrFun h5 (ix1 r),
    funext fun r => funext fun k => funext fun j => congrFun h6 (ix3 r k j),
    funext fun r => funext fun k => funext fun j => congrFun h7 (ix3 r k j),
    funext fun r => funext fun k => funext fun j => congrFun h8 (ix3 r k j),
    funext fun r => funext fun k => congrFun h9 (ix2 r k),
    funext fun r => funext fun k => congrFun h10 (ix2 r k),
    funext fun r => congrFun h11 (ix1 r),
    funext fun r => congrFun h12 (ix1 r),
    funext fun r => congrFun h13 (ix1 r),
    funext fun r => congrFun h14 (ix1 r)⟩

/-- An array of rank two is given by its entries. -/
theorem ext2 {α : Type} {a b : ℕ} {f g : (⟨2, ![a, b]⟩ : Shape).Idx → α} (h : ∀ i j, f (ix2 i j) = g (ix2 i j)) : f = g := by
  funext i
  rw [eq_ix2 (n0 := a) (n1 := b) i]
  exact h _ _

variable (V0 : Valuation Cert.ReferenceIdeal.τ Cert.ReferenceIdeal.sig (Elt Ideal))

/-- The real part of the last state, the same array in both. -/
theorem eq_148 (c : Dev Cert.KernelIdeal.nD) (hA : (args m c).Real) (e : rargs V0 = args m c) :
    Cert.ReferenceIdeal.Value.res_main_v148 V0 = fun i => Math.fr (args m c) (i 0) (i 1) :=
  ext2 fun r j => (v148_at V0 r j).trans (by rw [e]; exact (Math.fr_eq hA r j).symm)

/-- Its imaginary part. -/
theorem eq_150 (c : Dev Cert.KernelIdeal.nD) (hA : (args m c).Real) (e : rargs V0 = args m c) :
    Cert.ReferenceIdeal.Value.res_main_v150 V0 = fun i => Math.fi (args m c) (i 0) (i 1) :=
  ext2 fun r j => (v150_at V0 r j).trans (by rw [e]; exact (Math.fi_eq hA r j).symm)

/-- The real part of the readout. -/
theorem eq_out2 (c : Dev Cert.KernelIdeal.nD) (hA : (args m c).Real) (e : rargs V0 = args m c) :
    out2 V0 = fun i => Math.outr (args m c) (i 0) (i 1) :=
  ext2 fun r j => (out2_at V0 r j).trans (by rw [e]; exact (Math.outr_eq hA r j).symm)

/-- Its imaginary part. -/
theorem eq_out3 (c : Dev Cert.KernelIdeal.nD) (hA : (args m c).Real) (e : rargs V0 = args m c) :
    out3 V0 = fun i => Math.outi (args m c) (i 0) (i 1) :=
  ext2 fun r j => (out3_at V0 r j).trans (by rw [e]; exact (Math.outi_eq hA r j).symm)

/-- The angle of the last state. -/
theorem eq_out4 (c : Dev Cert.KernelIdeal.nD) (hA : (args m c).Real) (e : rargs V0 = args m c) :
    out4 V0 = fun i => Math.ang (Math.fr (args m c) (i 0) (i 1)) (Math.fi (args m c) (i 0) (i 1)) :=
  ext2 fun r j => (out4_at V0 r j).trans (by rw [e]; exact (congrArg₂ Math.ang (Math.fr_eq hA r j) (Math.fi_eq hA r j)).symm)

/-- Its norm. -/
theorem eq_out5 (c : Dev Cert.KernelIdeal.nD) (hA : (args m c).Real) (e : rargs V0 = args m c) :
    out5 V0 = fun i => Math.nrm (Math.fr (args m c) (i 0) (i 1)) (Math.fi (args m c) (i 0) (i 1)) :=
  ext2 fun r j => (out5_at V0 r j).trans (by rw [e]; exact (congrArg₂ Math.nrm (Math.fr_eq hA r j) (Math.fi_eq hA r j)).symm)

/-- The separation of the two layers. -/
theorem eq_out6 (c : Dev Cert.KernelIdeal.nD) (hA : (args m c).Real) (e : rargs V0 = args m c) :
    out6 V0 = fun _ => 0 + Math.sep (args m c) 0 + Math.sep (args m c) 1 :=
  funext fun i => (out6_at V0 i).trans (by rw [e, Math.sepl_eq hA 0, Math.sepl_eq hA 1])

/-- The supervised loss of the two layers. -/
theorem eq_out7 (c : Dev Cert.KernelIdeal.nD) (hA : (args m c).Real) (e : rargs V0 = args m c) :
    out7 V0 = fun _ => Math.sup (args m c) :=
  funext fun i => (out7_at V0 i).trans (by rw [e]; exact (Math.sup_eq hA).symm)

/-- The reference launched on finite arrays: its run, and that it declares no semaphore. -/
theorem frame_reference_finite : Cert.quiescent_ReferenceIdeal_pre_finite_inputs (hPre_finite_inputs := Cert.Finite.facts) :=
  fun m ρ _ => (θ_run Cert.ReferenceIdeal.defs _ _).mono (fun r h => ⟨fun c => (h c).2.2.2.2.2.2.2.2, sem_eq_zero_of_no_sems (by decide) r.2⟩)
    (Cert.ReferenceIdeal.Value.run (F := Ideal) m ρ)

set_option maxHeartbeats 4000000 in
/-- On finite arrays the idealized kernel and the idealized reference end with equal results, all eight. -/
theorem algebraic : Cert.algebraic_KernelIdeal_ReferenceIdeal_pre_finite_inputs (hPre_finite_inputs := Cert.Finite.facts) := by
  intro m g m' g' hpre hagree
  have hA : ∀ c, (args m c).Real := Cert.Finite.args_real m hpre
  have hE : ∀ c, rargs (launchContents m' c) = args m c := fun c => by
    obtain ⟨h0, h1, h2, h3, h4, h5, h6, h7, h8, h9, h10, h11, h12, h13, h14⟩ := hagree c
    exact args_agree m m' c h0 h1 h2 h3 h4 h5 h6 h7 h8 h9 h10 h11 h12 h13 h14
  refine ⟨fun c i => Math.fr (args m c) (i 0) (i 1), fun c i => Math.fi (args m c) (i 0) (i 1),
    fun c i => Math.outr (args m c) (i 0) (i 1), fun c i => Math.outi (args m c) (i 0) (i 1),
    fun c i => Math.ang (Math.fr (args m c) (i 0) (i 1)) (Math.fi (args m c) (i 0) (i 1)),
    fun c i => Math.nrm (Math.fr (args m c) (i 0) (i 1)) (Math.fi (args m c) (i 0) (i 1)),
    fun c _ => 0 + Math.sep (args m c) 0 + Math.sep (args m c) 1, fun c _ => Math.sup (args m c), ?_, ?_⟩
  · refine (θ_run _ _ _).mono (fun r h c => ?_) (θ_run_and (run_ends m g) (kernel_frame (F := Ideal) m g))
    obtain ⟨e0, e1, e2, e3, e4, e5, e6, e7⟩ := h.1 c
    exact ⟨e0, e1, e2, e3, e4, e5, e6, e7, h.2.1 c⟩
  · refine (θ_run _ _ _).mono (fun r h c => ?_) (Cert.ReferenceIdeal.Value.run (F := Ideal) m' g')
    obtain ⟨e0, e1, e2, e3, e4, e5, e6, e7, ea⟩ := h c
    exact ⟨e0.trans (eq_148 m _ c (hA c) (hE c)), e1.trans (eq_150 m _ c (hA c) (hE c)), e2.trans (eq_out2 m _ c (hA c) (hE c)),
      e3.trans (eq_out3 m _ c (hA c) (hE c)), e4.trans (eq_out4 m _ c (hA c) (hE c)), e5.trans (eq_out5 m _ c (hA c) (hE c)),
      e6.trans (eq_out6 m _ c (hA c) (hE c)), e7.trans (eq_out7 m _ c (hA c) (hE c)), ea⟩

end Cert.Proof

end
-- ==== Proof.lean ====
/- The certificate: each claim, proved in the modules imported. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Read
public import proofs.«01_k».proof.Proof.Frames
public import proofs.«01_k».proof.Proof.Values

@[expose] public section

noncomputable section

namespace Cert.Proof

theorem claim : Cert.Claim := ⟨Cert.Kernel.Gen.facts, Cert.KernelIdeal.Gen.facts, Cert.ReferenceIdeal.Gen.facts,
  Cert.Finite.facts, frame_kernel, frame_ideal, fun m ρ _ => kernel_frame (F := Idealize.ShloMosaic.Ideal) m ρ, frame_reference,
  frame_reference_finite, preserves_kernel, algebraic⟩

end Cert.Proof

end
